-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  IdealRules.named_const.Statement Cert.KernelIdeal.κ "q_scale" .f32 0x3E38AA3B#32 (((Real.log 2)⁻¹ * 8⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts) (hPre_experts_in_range : Cert.Pre_experts_in_range.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_experts_in_range.lean ====
abbrev S144 : Shape := ⟨1, ![144]⟩
abbrev S1 : Shape := ⟨1, ![1]⟩
abbrev S36864x2048 : Shape := ⟨2, ![36864, 2048]⟩
abbrev S16x2048x640 : Shape := ⟨3, ![16, 2048, 640]⟩
abbrev S16x640x2048 : Shape := ⟨3, ![16, 640, 2048]⟩
abbrev S_ : Shape := ⟨0, ![]⟩

class Facts : Prop where
  bcast_S_S144 : S_.BroadcastsInDim S144 (![] : Fin 0 → Fin S144.rank)
  reducesTo_S144_S_d0 : S144.ReducesTo [0] S_
  h_S_ : 0 < S_.numel

variable [Facts]

def fn {F : FTy → Type} [FloatOps F] (main_arg0 : IVec S144 32) (main_arg1 : IVec S1 32) (main_arg2 : FVec F S36864x2048 .f32) (main_arg3 : FVec F S16x2048x640 .f32) (main_arg4 : FVec F S16x2048x640 .f32) (main_arg5 : FVec F S16x640x2048 .f32) : IVec S_ 1 :=
  let main_c : IVec S_ 32 := constantI S_ 32 0#32
  let main_v0 : IVec S144 32 := broadcastInDim S144 ![] bcast_S_S144 main_c
  let main_v1 : IVec S144 1 := cmpi .sge main_arg0 main_v0
  let main_c_0 : IVec S_ 32 := constantI S_ 32 16#32
  let main_v2 : IVec S144 32 := broadcastInDim S144 ![] bcast_S_S144 main_c_0
  let main_v3 : IVec S144 1 := cmpi .slt main_arg0 main_v2
  let main_v4 : IVec S144 1 := andi main_v1 main_v3
  let main_c_1 : IVec S_ 1 := constantI S_ 1 1#1
  let main_v5 : IVec S_ 1 := (fun x v => Host.reduce IntOp.andi x v reducesTo_S144_S_d0 h_S_) main_v4 main_c_1
  main_v5
-- ==== Pre_finite_inputs.lean ====
abbrev S16384x6400 : Shape := ⟨2, ![16384, 6400]⟩
abbrev S64 : Shape := ⟨1, ![64]⟩
abbrev S128 : Shape := ⟨1, ![128]⟩
abbrev S16384x3072 : Shape := ⟨2, ![16384, 3072]⟩
abbrev S_ : Shape := ⟨0, ![]⟩

class Facts : Prop where
  slices_S16384x6400_S16384x3072_0_0 : S16384x6400.Slices ![0, 0] S16384x3072
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S64 .f32 := Host.absf main_arg4
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_c_7 : IVec S_ 1 := constantI S_ 1 1#1
  let main_v24 : IVec S_ 1 := (fun x v => Host.reduce IntOp.andi x v reducesTo_S64_S_d0 h_S_) main_v23 main_c_7
  let main_v25 : IVec S_ 1 := andi main_v20 main_v24
  main_v25

def fn {F : FTy → Type} [FloatOps F] (main_arg0 : FVec F S16384x6400 .bf16) (main_arg1 : FVec F S64 .f32) (main_arg2 : FVec F S64 .f32) (main_arg3 : FVec F S64 .f32) (main_arg4 : FVec F S64 .f32) (main_arg5 : FVec F S128 .f32) : IVec S_ 1 :=
  let main_v0 : FVec F S16384x3072 .bf16 := (extractStridedSlice S16384x3072 ![0, 0] · slices_S16384x6400_S16384x3072_0_0) main_arg0
  let main_v1 : FVec F S16384x3072 .f32 := (extf .f32 · bitsLt_bf16_f32) main_v0
  let main_v2 : FVec F S16384x3072 .f32 := Host.absf main_v1
  let main_cst : FVec F S_ .f32 := constant S_ .f32 0x7F800000#32
  let main_v3 : FVec F S16384x3072 .f32 := broadcastInDim S16384x3072 ![] bcast_S_S16384x3072 main_cst
  let main_v4 : IVec S16384x3072 1 := cmpf .olt main_v2 main_v3
  let main_c : IVec S_ 1 := constantI S_ 1 1#1
  let main_v5 : IVec S_ 1 := (fun x v => Host.reduce IntOp.andi x v reducesTo_S16384x3072_S_d0_1 h_S_) main_v4 main_c
  let main_v6 : FVec F S64 .f32 := Host.absf main_arg1
  let main_cst_0 : FVec F S_ .f32 := constant S_ .f32 0x7F800000#32
  let main_v7 : FVec F S64 .f32 := broadcastInDim S64 ![] bcast_S_S64 main_cst_0
  let main_v8 : IVec S64 1 := cmpf .olt main_v6 main_v7
  let main_c_1 : IVec S_ 1 := constantI S_ 1 1#1
  let main_v9 : IVec S_ 1 := (fun x v => Host.reduce IntOp.andi x v reducesTo_S64_S_d0 h_S_) main_v8 main_c_1
  let main_v10 : IVec S_ 1 := andi main_v5 main_v9
  let main_v11 : FVec F S64 .f32 := Host.absf main_arg2
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S64 .f32 := Host.absf main_arg3
  let main_cst_4 : FVec F S_ .f32 := constant S_ .f32 0x7F800000#32
  fn_part1 (F := F) main_arg4 main_v15 main_v16 main_cst_4
-- ==== Kernel.lean ====
abbrev S16384x6400 : Shape := ⟨2, ![16384, 6400]⟩
abbrev S64 : Shape := ⟨1, ![64]⟩
abbrev S128 : Shape := ⟨1, ![128]⟩
abbrev S1x64 : Shape := ⟨2, ![1, 64]⟩
abbrev S4x64 : Shape := ⟨2, ![4, 64]⟩
abbrev S1x128 : Shape := ⟨2, ![1, 128]⟩
abbrev S16384x1024 : Shape := ⟨2, ![16384, 1024]⟩
abbrev S1024x128 : Shape := ⟨2, ![1024, 128]⟩
abbrev S16384x128 : Shape := ⟨2, ![16384, 128]⟩
abbrev S16384x256 : Shape := ⟨2, ![16384, 256]⟩
abbrev S2x1024x128 : Shape := ⟨3, ![2, 1024, 128]⟩
abbrev S2x1024x256 : Shape := ⟨3, ![2, 1024, 256]⟩
abbrev S2x1024x1024 : Shape := ⟨3, ![2, 1024, 1024]⟩
abbrev S1024x1024 : Shape := ⟨2, ![1024, 1024]⟩
abbrev S1x1024x1024 : Shape := ⟨3, ![1, 1024, 1024]⟩
abbrev S1024x256 : Shape := ⟨2, ![1024, 256]⟩
abbrev S1x1024x128 : Shape := ⟨3, ![1, 1024, 128]⟩
abbrev S1024 : Shape := ⟨1, ![1024]⟩
abbrev S1024x1 : Shape := ⟨2, ![1024, 1]⟩
abbrev S1x1024x256 : Shape := ⟨3, ![1, 1024, 256]⟩
abbrev S1 : Shape := ⟨1, ![1]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S16384x6400, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S4x64, .f32⟩
  | .hbm, ⟨11, _⟩ => ⟨S1x128, .f32⟩
  | .hbm, ⟨12, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S1024x128, .bf16⟩
  | .local _ .vmem, ⟨3, _⟩ => ⟨S1024x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S1024x128, .bf16⟩
  | .local _ .vmem, ⟨9, _⟩ => ⟨S1024x128, .bf16⟩
  | .local _ .vmem, ⟨10, _⟩ => ⟨S16384x256, .bf16⟩
  | .local _ .vmem, ⟨11, _⟩ => ⟨S2x1024x128, .f32⟩
  | .local _ .vmem, ⟨12, _⟩ => ⟨S2x1024x256, .f32⟩
  | .local _ .vmem, ⟨13, _⟩ => ⟨S2x1024x1024, .f32⟩
  | .local _ .vmem, ⟨14, _⟩ => ⟨S2x1024x1024, .f32⟩
  | _, _ => ⟨S16384x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_mult1 : BitVec 32 :=
  let c0_i32_12 : BitVec 32 := 0#32
  c0_i32_12
def k0_mult2 : BitVec 32 :=
  let c0_i32_18 : BitVec 32 := 0#32
  c0_i32_18
@[reducible] def k0_t1_loop (i : grid0.Coords) : Scf.Loop 32 :=
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let c1_i32_31 : BitVec 32 := 1#32
  ⟨c0_i32_29, v59, c1_i32_31⟩
def k0_mult3 (i : grid0.Coords) (k0_t1 : Fin (k0_t1_loop i).trips) : BitVec 32 :=
  let c2_i32_97 : BitVec 32 := 2#32
  let c0_i32_29 : BitVec 32 := 0#32
  let c1_i32_31 : BitVec 32 := 1#32
  let arg13 : BitVec 32 := Scf.iv c0_i32_29 c1_i32_31 k0_t1
  let v184 : BitVec 32 := Scalar.muli c2_i32_97 arg13
  let c1_i32_98 : BitVec 32 := 1#32
  let v185 : BitVec 32 := Scalar.addi v184 c1_i32_98
  let c1024_i32_99 : BitVec 32 := 1024#32
  let v186 : BitVec 32 := Scalar.muli v185 c1024_i32_99
  v186
def k0_off1 (i : grid0.Coords) (k0_t1 : Fin (k0_t1_loop i).trips) (c1_i32_98 : BitVec 32) : Fin 2 → Nat :=
  let c2_i32_97 : BitVec 32 := 2#32
  let c0_i32_29 : BitVec 32 := 0#32
  let c1_i32_31 : BitVec 32 := 1#32
  let arg13 : BitVec 32 := Scf.iv c0_i32_29 c1_i32_31 k0_t1
  let v184 : BitVec 32 := Scalar.muli c2_i32_97 arg13
  let v185 : BitVec 32 := Scalar.addi v184 c1_i32_98
  let c1024_i32_99 : BitVec 32 := 1024#32
  let v186 : BitVec 32 := Scalar.muli v185 c1024_i32_99
  let v187 : BitVec 32 := v186
  let v188 : Index := Scalar.indexCast v187
  let c0_100 : Index := 0#32
  ![v188.toNat, 0]
def k0_mult4 (i : grid0.Coords) (k0_t1 : Fin (k0_t1_loop i).trips) : BitVec 32 :=
  let c2_i32_97 : BitVec 32 := 2#32
  let c0_i32_29 : BitVec 32 := 0#32
  let c1_i32_31 : BitVec 32 := 1#32
  let arg13 : BitVec 32 := Scf.iv c0_i32_29 c1_i32_31 k0_t1
  let v184 : BitVec 32 := Scalar.muli c2_i32_97 arg13
  let c1_i32_98 : BitVec 32 := 1#32
  let v185 : BitVec 32 := Scalar.addi v184 c1_i32_98
  let c1024_i32_105 : BitVec 32 := 1024#32
  let v194 : BitVec 32 := Scalar.muli v185 c1024_i32_105
  v194
def k0_mult5 (i : grid0.Coords) (k0_t1 : Fin (k0_t1_loop i).trips) : BitVec 32 :=
  let c2_i32_97 : BitVec 32 := 2#32
  let c0_i32_29 : BitVec 32 := 0#32
  let c1_i32_31 : BitVec 32 := 1#32
  let arg13 : BitVec 32 := Scf.iv c0_i32_29 c1_i32_31 k0_t1
  let v184 : BitVec 32 := Scalar.muli c2_i32_97 arg13
  let c1024_i32_111 : BitVec 32 := 1024#32
  let v202 : BitVec 32 := Scalar.muli v184 c1024_i32_111
  v202
def k0_off2 (i : grid0.Coords) (k0_t1 : Fin (k0_t1_loop i).trips) : Fin 2 → Nat :=
  let c2_i32_97 : BitVec 32 := 2#32
  let c0_i32_29 : BitVec 32 := 0#32
  let c1_i32_31 : BitVec 32 := 1#32
  let arg13 : BitVec 32 := Scf.iv c0_i32_29 c1_i32_31 k0_t1
  let v184 : BitVec 32 := Scalar.muli c2_i32_97 arg13
  let c1024_i32_111 : BitVec 32 := 1024#32
  let v202 : BitVec 32 := Scalar.muli v184 c1024_i32_111
  let v203 : BitVec 32 := v202
  let v204 : Index := Scalar.indexCast v203
  let c0_112 : Index := 0#32
  ![v204.toNat, 0]
def k0_mult6 (i : grid0.Coords) (k0_t1 : Fin (k0_t1_loop i).trips) : BitVec 32 :=
  let c2_i32_97 : BitVec 32 := 2#32
  let c0_i32_29 : BitVec 32 := 0#32
  let c1_i32_31 : BitVec 32 := 1#32
  let arg13 : BitVec 32 := Scf.iv c0_i32_29 c1_i32_31 k0_t1
  let v184 : BitVec 32 := Scalar.muli c2_i32_97 arg13
  let c2_i32_147 : BitVec 32 := 2#32
  let v258 : BitVec 32 := Scalar.addi v184 c2_i32_147
  let c1024_i32_148 : BitVec 32 := 1024#32
  let v259 : BitVec 32 := Scalar.muli v258 c1024_i32_148
  v259
def k0_mult7 (i : grid0.Coords) (k0_t1 : Fin (k0_t1_loop i).trips) : BitVec 32 :=
  let c2_i32_97 : BitVec 32 := 2#32
  let c0_i32_29 : BitVec 32 := 0#32
  let c1_i32_31 : BitVec 32 := 1#32
  let arg13 : BitVec 32 := Scf.iv c0_i32_29 c1_i32_31 k0_t1
  let v184 : BitVec 32 := Scalar.muli c2_i32_97 arg13
  let c2_i32_147 : BitVec 32 := 2#32
  let v258 : BitVec 32 := Scalar.addi v184 c2_i32_147
  let c1024_i32_154 : BitVec 32 := 1024#32
  let v267 : BitVec 32 := Scalar.muli v258 c1024_i32_154
  v267
def k0_mult8 (i : grid0.Coords) (k0_t1 : Fin (k0_t1_loop i).trips) : BitVec 32 :=
  let c2_i32_97 : BitVec 32 := 2#32
  let c0_i32_29 : BitVec 32 := 0#32
  let c1_i32_31 : BitVec 32 := 1#32
  let arg13 : BitVec 32 := Scf.iv c0_i32_29 c1_i32_31 k0_t1
  let v184 : BitVec 32 := Scalar.muli c2_i32_97 arg13
  let c1_i32_160 : BitVec 32 := 1#32
  let v275 : BitVec 32 := Scalar.addi v184 c1_i32_160
  let c1024_i32_161 : BitVec 32 := 1024#32
  let v276 : BitVec 32 := Scalar.muli v275 c1024_i32_161
  v276
def k0_off3 (i : grid0.Coords) (k0_t1 : Fin (k0_t1_loop i).trips) : Fin 2 → Nat :=
  let c2_i32_97 : BitVec 32 := 2#32
  let c0_i32_29 : BitVec 32 := 0#32
  let c1_i32_31 : BitVec 32 := 1#32
  let arg13 : BitVec 32 := Scf.iv c0_i32_29 c1_i32_31 k0_t1
  let v184 : BitVec 32 := Scalar.muli c2_i32_97 arg13
  let c1_i32_160 : BitVec 32 := 1#32
  let v275 : BitVec 32 := Scalar.addi v184 c1_i32_160
  let c1024_i32_161 : BitVec 32 := 1024#32
  let v276 : BitVec 32 := Scalar.muli v275 c1024_i32_161
  let v277 : BitVec 32 := v276
  let v278 : Index := Scalar.indexCast v277
  let c0_162 : Index := 0#32
  ![v278.toNat, 0]
@[reducible] def k0_t2_loop (i : grid0.Coords) : Scf.Loop 32 :=
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let v56 : BitVec 32 := Scalar.addi c0_i32_29 v55
  let c1_i32_32 : BitVec 32 := 1#32
  ⟨v59, v56, c1_i32_32⟩
def k0_mult9 (i : grid0.Coords) (k0_t2 : Fin (k0_t2_loop i).trips) : BitVec 32 :=
  let c2_i32_97 : BitVec 32 := 2#32
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let c1_i32_32 : BitVec 32 := 1#32
  let arg13 : BitVec 32 := Scf.iv v59 c1_i32_32 k0_t2
  let v184 : BitVec 32 := Scalar.muli c2_i32_97 arg13
  let c1_i32_98 : BitVec 32 := 1#32
  let v185 : BitVec 32 := Scalar.addi v184 c1_i32_98
  let c1024_i32_99 : BitVec 32 := 1024#32
  let v186 : BitVec 32 := Scalar.muli v185 c1024_i32_99
  v186
def k0_off4 (i : grid0.Coords) (k0_t2 : Fin (k0_t2_loop i).trips) (c1_i32_98 : BitVec 32) : Fin 2 → Nat :=
  let c2_i32_97 : BitVec 32 := 2#32
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let c1_i32_32 : BitVec 32 := 1#32
  let arg13 : BitVec 32 := Scf.iv v59 c1_i32_32 k0_t2
  let v184 : BitVec 32 := Scalar.muli c2_i32_97 arg13
  let v185 : BitVec 32 := Scalar.addi v184 c1_i32_98
  let c1024_i32_99 : BitVec 32 := 1024#32
  let v186 : BitVec 32 := Scalar.muli v185 c1024_i32_99
  let v187 : BitVec 32 := v186
  let v188 : Index := Scalar.indexCast v187
  let c0_100 : Index := 0#32
  ![v188.toNat, 0]
def k0_mult10 (i : grid0.Coords) (k0_t2 : Fin (k0_t2_loop i).trips) : BitVec 32 :=
  let c2_i32_97 : BitVec 32 := 2#32
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let c1_i32_32 : BitVec 32 := 1#32
  let arg13 : BitVec 32 := Scf.iv v59 c1_i32_32 k0_t2
  let v184 : BitVec 32 := Scalar.muli c2_i32_97 arg13
  let c1_i32_98 : BitVec 32 := 1#32
  let v185 : BitVec 32 := Scalar.addi v184 c1_i32_98
  let c1024_i32_105 : BitVec 32 := 1024#32
  let v194 : BitVec 32 := Scalar.muli v185 c1024_i32_105
  v194
def k0_mult11 (i : grid0.Coords) (k0_t2 : Fin (k0_t2_loop i).trips) : BitVec 32 :=
  let c2_i32_97 : BitVec 32 := 2#32
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let c1_i32_32 : BitVec 32 := 1#32
  let arg13 : BitVec 32 := Scf.iv v59 c1_i32_32 k0_t2
  let v184 : BitVec 32 := Scalar.muli c2_i32_97 arg13
  let c1024_i32_111 : BitVec 32 := 1024#32
  let v202 : BitVec 32 := Scalar.muli v184 c1024_i32_111
  v202
def k0_off5 (i : grid0.Coords) (k0_t2 : Fin (k0_t2_loop i).trips) : Fin 2 → Nat :=
  let c2_i32_97 : BitVec 32 := 2#32
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let c1_i32_32 : BitVec 32 := 1#32
  let arg13 : BitVec 32 := Scf.iv v59 c1_i32_32 k0_t2
  let v184 : BitVec 32 := Scalar.muli c2_i32_97 arg13
  let c1024_i32_111 : BitVec 32 := 1024#32
  let v202 : BitVec 32 := Scalar.muli v184 c1024_i32_111
  let v203 : BitVec 32 := v202
  let v204 : Index := Scalar.indexCast v203
  let c0_112 : Index := 0#32
  ![v204.toNat, 0]
def k0_mult12 (i : grid0.Coords) (k0_t2 : Fin (k0_t2_loop i).trips) : BitVec 32 :=
  let c2_i32_97 : BitVec 32 := 2#32
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let c1_i32_32 : BitVec 32 := 1#32
  let arg13 : BitVec 32 := Scf.iv v59 c1_i32_32 k0_t2
  let v184 : BitVec 32 := Scalar.muli c2_i32_97 arg13
  let c2_i32_147 : BitVec 32 := 2#32
  let v258 : BitVec 32 := Scalar.addi v184 c2_i32_147
  let c1024_i32_148 : BitVec 32 := 1024#32
  let v259 : BitVec 32 := Scalar.muli v258 c1024_i32_148
  v259
def k0_mult13 (i : grid0.Coords) (k0_t2 : Fin (k0_t2_loop i).trips) : BitVec 32 :=
  let c2_i32_97 : BitVec 32 := 2#32
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let c1_i32_32 : BitVec 32 := 1#32
  let arg13 : BitVec 32 := Scf.iv v59 c1_i32_32 k0_t2
  let v184 : BitVec 32 := Scalar.muli c2_i32_97 arg13
  let c2_i32_147 : BitVec 32 := 2#32
  let v258 : BitVec 32 := Scalar.addi v184 c2_i32_147
  let c1024_i32_154 : BitVec 32 := 1024#32
  let v267 : BitVec 32 := Scalar.muli v258 c1024_i32_154
  v267
def k0_mult14 (i : grid0.Coords) (k0_t2 : Fin (k0_t2_loop i).trips) : BitVec 32 :=
  let c2_i32_97 : BitVec 32 := 2#32
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let c1_i32_32 : BitVec 32 := 1#32
  let arg13 : BitVec 32 := Scf.iv v59 c1_i32_32 k0_t2
  let v184 : BitVec 32 := Scalar.muli c2_i32_97 arg13
  let c1_i32_160 : BitVec 32 := 1#32
  let v275 : BitVec 32 := Scalar.addi v184 c1_i32_160
  let c1024_i32_161 : BitVec 32 := 1024#32
  let v276 : BitVec 32 := Scalar.muli v275 c1024_i32_161
  v276
def k0_off6 (i : grid0.Coords) (k0_t2 : Fin (k0_t2_loop i).trips) : Fin 2 → Nat :=
  let c2_i32_97 : BitVec 32 := 2#32
  let c0_i32_29 : BitVec 32 := 0#32
  let arg1 : BitVec 32 := BitVec.ofNat 32 (i 1).val
  let c0_i32_23 : BitVec 32 := 0#32
  let v39 : BitVec 1 := Scalar.cmpi .sgt arg1 c0_i32_23
  let v40 : BitVec 32 := Scalar.extui v39
  let c0_i32_24 : BitVec 32 := 0#32
  let v41 : BitVec 1 := Scalar.cmpi .slt arg1 c0_i32_24
  let v42 : BitVec 32 := Scalar.extui v41
  let v43 : BitVec 32 := Scalar.subi v40 v42
  let c2_i32 : BitVec 32 := 2#32
  let c0_i32_25 : BitVec 32 := 0#32
  let v44 : BitVec 1 := Scalar.cmpi .sgt c2_i32 c0_i32_25
  let v45 : BitVec 32 := Scalar.extui v44
  let c0_i32_26 : BitVec 32 := 0#32
  let v46 : BitVec 1 := Scalar.cmpi .slt c2_i32 c0_i32_26
  let v47 : BitVec 32 := Scalar.extui v46
  let v48 : BitVec 32 := Scalar.subi v45 v47
  let v49 : BitVec 1 := Scalar.cmpi .ne v43 v48
  let v50 : BitVec 32 := Scalar.remsi arg1 c2_i32
  let c0_i32_27 : BitVec 32 := 0#32
  let v51 : BitVec 1 := Scalar.cmpi .ne v50 c0_i32_27
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_29
  let c1_i32_30 : BitVec 32 := 1#32
  let v57 : BitVec 32 := Scalar.divsi v55 c1_i32_30
  let v58 : BitVec 32 := Scalar.muli v57 c1_i32_30
  let v59 : BitVec 32 := Scalar.addi c0_i32_29 v58
  let c1_i32_32 : BitVec 32 := 1#32
  let arg13 : BitVec 32 := Scf.iv v59 c1_i32_32 k0_t2
  let v184 : BitVec 32 := Scalar.muli c2_i32_97 arg13
  let c1_i32_160 : BitVec 32 := 1#32
  let v275 : BitVec 32 := Scalar.addi v184 c1_i32_160
  let c1024_i32_161 : BitVec 32 := 1024#32
  let v276 : BitVec 32 := Scalar.muli v275 c1024_i32_161
  let v277 : BitVec 32 := v276
  let v278 : Index := Scalar.indexCast v277
  let c0_162 : Index := 0#32
  ![v278.toNat, 0]
def k0_cond2 (i : grid0.Coords) : BitVec 1 :=
  let arg1 : BitVec 32 := BitVec.ofNat 32 (i 1).val
  let c2_i32_33 : BitVec 32 := 2#32
  let c0_i32_34 : BitVec 32 := 0#32
  let v60 : BitVec 1 := Scalar.cmpi .eq c2_i32_33 c0_i32_34
  let c1_i32_35 : BitVec 32 := 1#32
  let v61 : BitVec 32 := Scalar.select v60 c1_i32_35 c2_i32_33
  let v62 : BitVec 32 := Scalar.remsi arg1 v61
  let c0_i32_37 : BitVec 32 := 0#32
  let v64 : BitVec 1 := Scalar.cmpi .slt v62 c0_i32_37
  let c0_i32_38 : BitVec 32 := 0#32
  let v65 : BitVec 1 := Scalar.cmpi .slt v61 c0_i32_38
  let v66 : BitVec 1 := Scalar.xori v64 v65
  let c0_i32_36 : BitVec 32 := 0#32
  let v63 : BitVec 1 := Scalar.cmpi .ne v62 c0_i32_36
  let v67 : BitVec 1 := Scalar.andi v66 v63
  let v68 : BitVec 32 := Scalar.addi v62 v61
  let v69 : BitVec 32 := Scalar.select v67 v68 v62
  let c1_i32_39 : BitVec 32 := 1#32
  let v70 : BitVec 1 := Scalar.cmpi .eq v69 c1_i32_39
  let v71 : BitVec 32 := Scalar.extui v70
  let c0_i32_40 : BitVec 32 := 0#32
  let v72 : BitVec 1 := Scalar.cmpi .ne v71 c0_i32_40
  v72

def k0_mult15 (i : grid0.Coords) : BitVec 32 :=
  let arg1 : BitVec 32 := BitVec.ofNat 32 (i 1).val
  let c1_i32_97 : BitVec 32 := 1#32
  let v184 : BitVec 32 := Scalar.subi arg1 c1_i32_97
  let c1024_i32_98 : BitVec 32 := 1024#32
  let v185 : BitVec 32 := Scalar.muli v184 c1024_i32_98
  v185
def k0_off7 (i : grid0.Coords) : Fin 2 → Nat :=
  let arg1 : BitVec 32 := BitVec.ofNat 32 (i 1).val
  let c1_i32_97 : BitVec 32 := 1#32
  let v184 : BitVec 32 := Scalar.subi arg1 c1_i32_97
  let c1024_i32_98 : BitVec 32 := 1024#32
  let v185 : BitVec 32 := Scalar.muli v184 c1024_i32_98
  let v186 : BitVec 32 := v185
  let v187 : Index := Scalar.indexCast v186
  let c0_99 : Index := 0#32
  ![v187.toNat, 0]
def k0_mult16 (i : grid0.Coords) : BitVec 32 :=
  let arg1 : BitVec 32 := BitVec.ofNat 32 (i 1).val
  let c1024_i32_134 : BitVec 32 := 1024#32
  let v241 : BitVec 32 := Scalar.muli arg1 c1024_i32_134
  v241
def k0_off8 (i : grid0.Coords) : Fin 2 → Nat :=
  let arg1 : BitVec 32 := BitVec.ofNat 32 (i 1).val
  let c1024_i32_134 : BitVec 32 := 1024#32
  let v241 : BitVec 32 := Scalar.muli arg1 c1024_i32_134
  let v242 : BitVec 32 := v241
  let v243 : Index := Scalar.indexCast v242
  let c0_135 : Index := 0#32
  ![v243.toNat, 0]
def k0_mult17 (i : grid0.Coords) : BitVec 32 :=
  let arg1 : BitVec 32 := BitVec.ofNat 32 (i 1).val
  let c1024_i32_140 : BitVec 32 := 1024#32
  let v249 : BitVec 32 := Scalar.muli arg1 c1024_i32_140
  v249
def k0_mult18 (i : grid0.Coords) : BitVec 32 :=
  let arg1 : BitVec 32 := BitVec.ofNat 32 (i 1).val
  let c1024_i32 : BitVec 32 := 1024#32
  let v73 : BitVec 32 := Scalar.muli arg1 c1024_i32
  v73
def k0_off9 (i : grid0.Coords) : Fin 2 → Nat :=
  let arg1 : BitVec 32 := BitVec.ofNat 32 (i 1).val
  let c1024_i32 : BitVec 32 := 1024#32
  let v73 : BitVec 32 := Scalar.muli arg1 c1024_i32
  let v74 : BitVec 32 := v73
  let v75 : Index := Scalar.indexCast v74
  let c0_41 : Index := 0#32
  ![v75.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "q_scale" => some (((Real.log 2)⁻¹ * 8⁻¹ : ℝ) : EReal)
  | _ => none
-- ==== ReferenceIdeal.lean ====
abbrev S16384x6400 : Shape := ⟨2, ![16384, 6400]⟩
abbrev S64 : Shape := ⟨1, ![64]⟩
abbrev S128 : Shape := ⟨1, ![128]⟩
abbrev S16384x1024 : Shape := ⟨2, ![16384, 1024]⟩
abbrev S16384x8x2x64 : Shape := ⟨4, ![16384, 8, 2, 64]⟩
abbrev S16384x8x128 : Shape := ⟨3, ![16384, 8, 128]⟩
abbrev S_ : Shape := ⟨0, ![]⟩
abbrev S8x2x16384x16384 : Shape := ⟨4, ![8, 2, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x2x16384 : Shape := ⟨3, ![8, 2, 16384]⟩
abbrev S8x2x16384x1 : Shape := ⟨4, ![8, 2, 16384, 1]⟩
abbrev S8x1x16384x16384 : Shape := ⟨4, ![8, 1, 16384, 16384]⟩
abbrev S8x16384x16384 : Shape := ⟨3, ![8, 16384, 16384]⟩
abbrev S8x128x16384 : Shape := ⟨3, ![8, 128, 16384]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S16384x6400, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S16384x6400, .f32⟩
  | .hbm, ⟨7, _⟩ => ⟨S16384x1024, .f32⟩
  | .hbm, ⟨8, _⟩ => ⟨S16384x8x2x64, .f32⟩
  | .hbm, ⟨9, _⟩ => ⟨S16384x1024, .f32⟩
  | .hbm, ⟨10, _⟩ => ⟨S16384x8x2x64, .f32⟩
  | .hbm, ⟨11, _⟩ => ⟨S16384x1024, .f32⟩
  | .hbm, ⟨12, _⟩ => ⟨S16384x8x128, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x2x16384x16384, .f32⟩
  | .hbm, ⟨25, _⟩ => ⟨S_, .f32⟩
  | .hbm, ⟨26, _⟩ => ⟨S8x2x16384x16384, .f32⟩
  | .hbm, ⟨27, _⟩ => ⟨S8x2x16384x16384, .f32⟩
  | .hbm, ⟨28, _⟩ => ⟨S16384, .i32⟩
  | .hbm, ⟨29, _⟩ => ⟨S1x16384, .i32⟩
  | .hbm, ⟨30, _⟩ => ⟨S16384x1, .i32⟩
  | .hbm, ⟨31, _⟩ => ⟨S16384x16384, .i32⟩
  | .hbm, ⟨32, _⟩ => ⟨S16384x16384, .i32⟩
  | .hbm, ⟨33, _⟩ => ⟨S16384x16384, .i1⟩
  | .hbm, ⟨34, _⟩ => ⟨S_, .f32⟩
  | .hbm, ⟨35, _⟩ => ⟨S_, .f32⟩
  | .hbm, ⟨36, _⟩ => ⟨S8x2x16384x16384, .i1⟩
  | .hbm, ⟨37, _⟩ => ⟨S8x2x16384x16384, .f32⟩
  | .hbm, ⟨38, _⟩ => ⟨S8x2x16384x16384, .f32⟩
  | .hbm, ⟨39, _⟩ => ⟨S_, .f32⟩
  | .hbm, ⟨40, _⟩ => ⟨S8x2x16384, .f32⟩
  | .hbm, ⟨41, _⟩ => ⟨S_, .f32⟩
  | .hbm, ⟨42, _⟩ => ⟨S8x2x16384, .f32⟩
  | .hbm, ⟨43, _⟩ => ⟨S8x2x16384, .f32⟩
  | .hbm, ⟨44, _⟩ => ⟨S8x2x16384x1, .f32⟩
  | .hbm, ⟨45, _⟩ => ⟨S8x2x16384x16384, .f32⟩
  | .hbm, ⟨46, _⟩ => ⟨S8x2x16384x16384, .f32⟩
  | .hbm, ⟨47, _⟩ => ⟨S8x2x16384x16384, .f32⟩
  | .hbm, ⟨48, _⟩ => ⟨S_, .f32⟩
  | .hbm, ⟨49, _⟩ => ⟨S8x2x16384, .f32⟩
  | .hbm, ⟨50, _⟩ => ⟨S8x2x16384x1, .f32⟩
  | .hbm, ⟨51, _⟩ => ⟨S8x2x16384x16384, .f32⟩
  | .hbm, ⟨52, _⟩ => ⟨S8x2x16384x16384, .f32⟩
  | .hbm, ⟨53, _⟩ => ⟨S8x1x16384x16384, .f32⟩
  | .hbm, ⟨54, _⟩ => ⟨S8x16384x16384, .f32⟩
  | .hbm, ⟨55, _⟩ => ⟨S8x1x16384x16384, .f32⟩
  | .hbm, ⟨56, _⟩ => ⟨S8x16384x16384, .f32⟩
  | .hbm, ⟨57, _⟩ => ⟨S8x16384x16384, .f32⟩
  | .hbm, ⟨58, _⟩ => ⟨S8x16384x16384, .f32⟩
  | .hbm, ⟨59, _⟩ => ⟨S8x16384x16384, .f32⟩
  | .hbm, ⟨60, _⟩ => ⟨S8x128x16384, .f32⟩
  | .hbm, ⟨61, _⟩ => ⟨S16384x8x128, .f32⟩
  | .hbm, ⟨62, _⟩ => ⟨S16384x8x128, .f32⟩
  | .hbm, ⟨63, _⟩ => ⟨S_, .f32⟩
  | .hbm, ⟨64, _⟩ => ⟨S16384x8, .f32⟩
  | .hbm, ⟨65, _⟩ => ⟨S16384x8x1, .f32⟩
  | .hbm, ⟨66, _⟩ => ⟨S_, .f32⟩
  | .hbm, ⟨67, _⟩ => ⟨S16384x8x1, .f32⟩
  | .hbm, ⟨68, _⟩ => ⟨S16384x8x1, .f32⟩
  | .hbm, ⟨69, _⟩ => ⟨S_, .f32⟩
  | .hbm, ⟨70, _⟩ => ⟨S16384x8x1, .f32⟩
  | .hbm, ⟨71, _⟩ => ⟨S16384x8x1, .f32⟩
  | .hbm, ⟨72, _⟩ => ⟨S16384x8x1, .f32⟩
  | .hbm, ⟨73, _⟩ => ⟨S16384x8x128, .f32⟩
  | .hbm, ⟨74, _⟩ => ⟨S16384x8x128, .f32⟩
  | .hbm, ⟨75, _⟩ => ⟨S1x1x128, .f32⟩
  | .hbm, ⟨76, _⟩ => ⟨S16384x8x128, .f32⟩
  | .hbm, ⟨77, _⟩ => ⟨S16384x8x128, .f32⟩
  | .hbm, ⟨78, _⟩ => ⟨S_, .f32⟩
  | .hbm, ⟨79, _⟩ => ⟨S16384x8x128, .f32⟩
  | .hbm, ⟨80, _⟩ => ⟨S16384x8x128, .f32⟩
  | .hbm, ⟨81, _⟩ => ⟨S16384x1024, .f32⟩
  | .hbm, ⟨82, _⟩ => ⟨S16384x1024, .bf16⟩
  | _, _ => ⟨S16384x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel2.lean ====
abbrev S144 : Shape := ⟨1, ![144]⟩
abbrev S1 : Shape := ⟨1, ![1]⟩
abbrev S36864x2048 : Shape := ⟨2, ![36864, 2048]⟩
abbrev S16x2048x640 : Shape := ⟨3, ![16, 2048, 640]⟩
abbrev S16x640x2048 : Shape := ⟨3, ![16, 640, 2048]⟩
abbrev S256x2048 : Shape := ⟨2, ![256, 2048]⟩
abbrev S1x2048x640 : Shape := ⟨3, ![1, 2048, 640]⟩
abbrev S1x640x2048 : Shape := ⟨3, ![1, 640, 2048]⟩
abbrev S2048x1280 : Shape := ⟨2, ![2048, 1280]⟩
abbrev S640x2048 : Shape := ⟨2, ![640, 2048]⟩
abbrev S2048x640 : Shape := ⟨2, ![2048, 640]⟩
abbrev S256x1280 : Shape := ⟨2, ![256, 1280]⟩
abbrev S256x640 : Shape := ⟨2, ![256, 640]⟩

abbrev nBuf : Space → Nat
  | .hbm => 5
  | .vmem => 12
  | .smem => 2
  | _ => 0

abbrev bufTy : (tb : Table) → Fin (tcTables nBuf tb) → BufTy
  | .hbm, ⟨0, _⟩ => ⟨S36864x2048, .f32⟩
  | .hbm, ⟨1, _⟩ => ⟨S16x2048x640, .f32⟩
  | .hbm, ⟨2, _⟩ => ⟨S16x2048x640, .f32⟩
  | .hbm, ⟨3, _⟩ => ⟨S16x640x2048, .f32⟩
  | .hbm, ⟨4, _⟩ => ⟨S36864x2048, .f32⟩
  | .local _ .vmem, ⟨0, _⟩ => ⟨S256x2048, .f32⟩
  | .local _ .vmem, ⟨1, _⟩ => ⟨S256x2048, .f32⟩
  | .local _ .vmem, ⟨2, _⟩ => ⟨S1x2048x640, .f32⟩
  | .local _ .vmem, ⟨3, _⟩ => ⟨S1x2048x640, .f32⟩
  | .local _ .vmem, ⟨4, _⟩ => ⟨S1x2048x640, .f32⟩
  | .local _ .vmem, ⟨5, _⟩ => ⟨S1x2048x640, .f32⟩
  | .local _ .vmem, ⟨6, _⟩ => ⟨S1x640x2048, .f32⟩
  | .local _ .vmem, ⟨7, _⟩ => ⟨S1x640x2048, .f32⟩
  | .local _ .vmem, ⟨8, _⟩ => ⟨S256x2048, .f32⟩
  | .local _ .vmem, ⟨9, _⟩ => ⟨S256x2048, .f32⟩
  | .local _ .vmem, ⟨10, _⟩ => ⟨S2048x1280, .bf16⟩
  | .local _ .vmem, ⟨11, _⟩ => ⟨S640x2048, .bf16⟩
  | .local _ .smem, ⟨0, _⟩ => ⟨S144, .i32⟩
  | .local _ .smem, ⟨1, _⟩ => ⟨S1, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S144 : Shape := ⟨1, ![144]⟩
abbrev S1 : Shape := ⟨1, ![1]⟩
abbrev S36864x2048 : Shape := ⟨2, ![36864, 2048]⟩
abbrev S16x2048x640 : Shape := ⟨3, ![16, 2048, 640]⟩
abbrev S16x640x2048 : Shape := ⟨3, ![16, 640, 2048]⟩
abbrev S144x256 : Shape := ⟨2, ![144, 256]⟩
abbrev S36864 : Shape := ⟨1, ![36864]⟩
abbrev S_ : Shape := ⟨0, ![]⟩
abbrev S36864x1 : Shape := ⟨2, ![36864, 1]⟩
abbrev S16 : Shape := ⟨1, ![16]⟩
abbrev S1x16 : Shape := ⟨2, ![1, 16]⟩
abbrev S36864x16 : Shape := ⟨2, ![36864, 16]⟩
abbrev S16x640x36864 : Shape := ⟨3, ![16, 640, 36864]⟩
abbrev S16x36864x640 : Shape := ⟨3, ![16, 36864, 640]⟩
abbrev S16x36864x2048 : Shape := ⟨3, ![16, 36864, 2048]⟩

abbrev nBuf : Space → Nat
  | .hbm => 59
  | .vmem => 0
  | .smem => 0
  | _ => 0

abbrev bufTy : (tb : Table) → Fin (tcTables nBuf tb) → BufTy
  | .hbm, ⟨0, _⟩ => ⟨S144, .i32⟩
  | .hbm, ⟨1, _⟩ => ⟨S1, .i32⟩
  | .hbm, ⟨2, _⟩ => ⟨S36864x2048, .f32⟩
  | .hbm, ⟨3, _⟩ => ⟨S16x2048x640, .f32⟩
  | .hbm, ⟨4, _⟩ => ⟨S16x2048x640, .f32⟩
  | .hbm, ⟨5, _⟩ => ⟨S16x640x2048, .f32⟩
  | .hbm, ⟨6, _⟩ => ⟨S144x256, .i32⟩
  | .hbm, ⟨7, _⟩ => ⟨S36864, .i32⟩
  | .hbm, ⟨8, _⟩ => ⟨S36864, .i32⟩
  | .hbm, ⟨9, _⟩ => ⟨S_, .i32⟩
  | .hbm, ⟨10, _⟩ => ⟨S_, .i32⟩
  | .hbm, ⟨11, _⟩ => ⟨S36864, .i32⟩
  | .hbm, ⟨12, _⟩ => ⟨S36864, .i32⟩
  | .hbm, ⟨13, _⟩ => ⟨S36864, .i32⟩
  | .hbm, ⟨14, _⟩ => ⟨S_, .i32⟩
  | .hbm, ⟨15, _⟩ => ⟨S36864, .i32⟩
  | .hbm, ⟨16, _⟩ => ⟨S36864, .i1⟩
  | .hbm, ⟨17, _⟩ => ⟨S36864, .i32⟩
  | .hbm, ⟨18, _⟩ => ⟨S36864, .i32⟩
  | .hbm, ⟨19, _⟩ => ⟨S_, .i32⟩
  | .hbm, ⟨20, _⟩ => ⟨S36864, .i32⟩
  | .hbm, ⟨21, _⟩ => ⟨S36864, .i1⟩
  | .hbm, ⟨22, _⟩ => ⟨S36864, .i1⟩
  | .hbm, ⟨23, _⟩ => ⟨S_, .i32⟩
  | .hbm, ⟨24, _⟩ => ⟨S36864, .i32⟩
  | .hbm, ⟨25, _⟩ => ⟨S36864, .i32⟩
  | .hbm, ⟨26, _⟩ => ⟨S36864, .i32⟩
  | .hbm, ⟨27, _⟩ => ⟨S36864, .i32⟩
  | .hbm, ⟨28, _⟩ => ⟨S36864, .i1⟩
  | .hbm, ⟨29, _⟩ => ⟨S36864x1, .i32⟩
  | .hbm, ⟨30, _⟩ => ⟨S16, .i32⟩
  | .hbm, ⟨31, _⟩ => ⟨S1x16, .i32⟩
  | .hbm, ⟨32, _⟩ => ⟨S36864x16, .i32⟩
  | .hbm, ⟨33, _⟩ => ⟨S36864x16, .i32⟩
  | .hbm, ⟨34, _⟩ => ⟨S36864x16, .i1⟩
  | .hbm, ⟨35, _⟩ => ⟨S36864x1, .i1⟩
  | .hbm, ⟨36, _⟩ => ⟨S36864x16, .i1⟩
  | .hbm, ⟨37, _⟩ => ⟨S36864x16, .i1⟩
  | .hbm, ⟨38, _⟩ => ⟨S_, .f32⟩
  | .hbm, ⟨39, _⟩ => ⟨S_, .f32⟩
  | .hbm, ⟨40, _⟩ => ⟨S36864x16, .f32⟩
  | .hbm, ⟨41, _⟩ => ⟨S36864x16, .f32⟩
  | .hbm, ⟨42, _⟩ => ⟨S36864x16, .f32⟩
  | .hbm, ⟨43, _⟩ => ⟨S16x640x36864, .f32⟩
  | .hbm, ⟨44, _⟩ => ⟨S16x36864x640, .f32⟩
  | .hbm, ⟨45, _⟩ => ⟨S16x36864x640, .f32⟩
  | .hbm, ⟨46, _⟩ => ⟨S16x36864x640, .f32⟩
  | .hbm, ⟨47, _⟩ => ⟨S_, .f32⟩
  | .hbm, ⟨48, _⟩ => ⟨S16x36864x640, .f32⟩
  | .hbm, ⟨49, _⟩ => ⟨S16x36864x640, .f32⟩
  | .hbm, ⟨50, _⟩ => ⟨S_, .f32⟩
  | .hbm, ⟨51, _⟩ => ⟨S16x36864x640, .f32⟩
  | .hbm, ⟨52, _⟩ => ⟨S16x36864x640, .f32⟩
  | .hbm, ⟨53, _⟩ => ⟨S16x36864x640, .f32⟩
  | .hbm, ⟨54, _⟩ => ⟨S16x640x36864, .f32⟩
  | .hbm, ⟨55, _⟩ => ⟨S16x36864x640, .f32⟩
  | .hbm, ⟨56, _⟩ => ⟨S16x36864x640, .f32⟩
  | .hbm, ⟨57, _⟩ => ⟨S16x36864x2048, .f32⟩
  | .hbm, ⟨58, _⟩ => ⟨S36864x2048, .f32⟩
  | _, _ => ⟨S144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩

abbrev nD : Nat := 1
abbrev τ : Topo := Topo.v7x

variable {F : FTy → Type} [FloatOps F]
-- ==== Kernel3.lean ====
abbrev S16384x2048 : Shape := ⟨2, ![16384, 2048]⟩
abbrev S2048x6160 : Shape := ⟨2, ![2048, 6160]⟩
abbrev S2048x5120 : Shape := ⟨2, ![2048, 5120]⟩
abbrev S2048x1024 : Shape := ⟨2, ![2048, 1024]⟩
abbrev S2048x16 : Shape := ⟨2, ![2048, 16]⟩
abbrev S_ : Shape := ⟨0, ![]⟩
abbrev S2048x240 : Shape := ⟨2, ![2048, 240]⟩
abbrev S2048x6400 : Shape := ⟨2, ![2048, 6400]⟩
abbrev S16384x6400 : Shape := ⟨2, ![16384, 6400]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 10
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x6160, .f32⟩
  | .hbm, ⟨2, _⟩ => ⟨S2048x5120, .f32⟩
  | .hbm, ⟨3, _⟩ => ⟨S2048x1024, .f32⟩
  | .hbm, ⟨4, _⟩ => ⟨S2048x16, .f32⟩
  | .hbm, ⟨5, _⟩ => ⟨S_, .f32⟩
  | .hbm, ⟨6, _⟩ => ⟨S2048x240, .f32⟩
  | .hbm, ⟨7, _⟩ => ⟨S2048x6400, .f32⟩
  | .hbm, ⟨8, _⟩ => ⟨S2048x6400, .bf16⟩
  | .hbm, ⟨9, _⟩ => ⟨S16384x6400, .bf16⟩
  | .local _ .vmem, ⟨0, _⟩ => ⟨S1024x2048, .f32⟩
  | .local _ .vmem, ⟨1, _⟩ => ⟨S1024x2048, .f32⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x6160 : Shape := ⟨2, ![2048, 6160]⟩
abbrev S16384x6160 : Shape := ⟨2, ![16384, 6160]⟩
abbrev S16384x5120 : Shape := ⟨2, ![16384, 5120]⟩
abbrev S16384x16 : Shape := ⟨2, ![16384, 16]⟩
abbrev S16384x1024 : Shape := ⟨2, ![16384, 1024]⟩
abbrev S_ : Shape := ⟨0, ![]⟩
abbrev S16384x240 : Shape := ⟨2, ![16384, 240]⟩
abbrev S16384x6400 : Shape := ⟨2, ![16384, 6400]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x6160, .f32⟩
  | .hbm, ⟨2, _⟩ => ⟨S16384x6160, .f32⟩
  | .hbm, ⟨3, _⟩ => ⟨S16384x5120, .f32⟩
  | .hbm, ⟨4, _⟩ => ⟨S16384x16, .f32⟩
  | .hbm, ⟨5, _⟩ => ⟨S16384x1024, .f32⟩
  | .hbm, ⟨6, _⟩ => ⟨S_, .f32⟩
  | .hbm, ⟨7, _⟩ => ⟨S16384x240, .f32⟩
  | .hbm, ⟨8, _⟩ => ⟨S16384x6400, .f32⟩
  | .hbm, ⟨9, _⟩ => ⟨S16384x6400, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S16384x2048 : Shape := ⟨2, ![16384, 2048]⟩
abbrev S2048x4096 : Shape := ⟨2, ![2048, 4096]⟩
abbrev S2048x1024 : Shape := ⟨2, ![2048, 1024]⟩
abbrev S_ : Shape := ⟨0, ![]⟩
abbrev S2048x3072 : Shape := ⟨2, ![2048, 3072]⟩
abbrev S16384x4096 : Shape := ⟨2, ![16384, 4096]⟩
abbrev S1024x2048 : Shape := ⟨2, ![1024, 2048]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x4096, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x3072, .f32⟩
  | .hbm, ⟨7, _⟩ => ⟨S2048x4096, .f32⟩
  | .hbm, ⟨8, _⟩ => ⟨S2048x4096, .bf16⟩
  | .hbm, ⟨9, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S2048x4096 : Shape := ⟨2, ![2048, 4096]⟩
abbrev S16384x4096 : Shape := ⟨2, ![16384, 4096]⟩
abbrev S16384x1024 : Shape := ⟨2, ![16384, 1024]⟩
abbrev S16384x3072 : Shape := ⟨2, ![16384, 3072]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x4096, .f32⟩
  | .hbm, ⟨2, _⟩ => ⟨S16384x4096, .f32⟩
  | .hbm, ⟨3, _⟩ => ⟨S16384x1024, .f32⟩
  | .hbm, ⟨4, _⟩ => ⟨S16384x3072, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x4096, .f32⟩
  | .hbm, ⟨9, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Trip.lean ====
/-
  One trip of the loop over pairs of key blocks, and the carried arrays read half by half.

  The kernel's loop takes two key blocks per trip: it stores the scores of the odd block, folds the even block's
  scores (stored before the trip) into the running maximum and sums, stores the scores of the next even block and folds
  the odd block's in. Here each stored array is read back through the rectangle of one half of the heads: what a trip
  leaves there is a closed function (`sc`, `mNew`, `aNew`) of what it found.
-/
module

public import proofs.«01_k».proof.Proof.Gen.KernelIdeal.Loops
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe Idealize.SL.Sem

variable {sig' : RefSig} {κ' : Kind} {sp' : Space} {s' : Shape} {e' : EltTy} {Val : EltTy → Type}

/-- A load through the rectangle of the last store reads that store's payload. -/
theorem readAt_writes_head (v : View sig' κ' sp' s' e') (f : v.ty.Contents Val) (r : Rect s') (w : r.shape.Idx → Val e')
    (L : List (View.Piece Val s' e')) : v.readAt Val r.toLoadRect (v.writes Val f (⟨r, w⟩ :: L)) = w := by
  funext x
  exact View.read_writes_cons_emb v f r w L x

/-- A load that misses the last store reads what the earlier ones left. -/
theorem readAt_writes_skip (v : View sig' κ' sp' s' e') (f : v.ty.Contents Val) (r : Rect s') (w : r.shape.Idx → Val e')
    (L : List (View.Piece Val s' e')) (B : LoadRect s') (h : LoadRect.disj r B = true) :
    v.readAt Val B (v.writes Val f (⟨r, w⟩ :: L)) = v.readAt Val B (v.writes Val f L) := by
  funext x
  exact View.read_writes_cons_miss v f ⟨r, w⟩ L (B.idx x) (LoadRect.idx_not_mem_of_disj h x)

variable {F : FTy → Type} [FloatOps F] [Named F]

/-- Eight copies of a column group side by side, as the kernel spreads a running maximum over a block's columns. -/
def cat8 (x : FVec F S1024x128 .f32) : FVec F S1024x1024 .f32 :=
  concatenate S1024x1024 1 [⟨S1024x128, x⟩, ⟨S1024x128, x⟩, ⟨S1024x128, x⟩, ⟨S1024x128, x⟩, ⟨S1024x128, x⟩, ⟨S1024x128, x⟩, ⟨S1024x128, x⟩, ⟨S1024x128, x⟩] concatenates_S1024x128_S1024x128_S1024x128_S1024x128_S1024x128_S1024x128_S1024x128_S1024x128_S1024x1024_d1

/-- Two copies side by side, as it spreads a rescaling factor over the running sums. -/
def cat2 (x : FVec F S1024x128 .f32) : FVec F S1024x256 .f32 :=
  concatenate S1024x256 1 [⟨S1024x128, x⟩, ⟨S1024x128, x⟩] concatenates_S1024x128_S1024x128_S1024x256_d1

theorem fold8 (x : FVec F S1024x128 .f32) (h) :
    concatenate S1024x1024 1 [⟨S1024x128, x⟩, ⟨S1024x128, x⟩, ⟨S1024x128, x⟩, ⟨S1024x128, x⟩, ⟨S1024x128, x⟩, ⟨S1024x128, x⟩, ⟨S1024x128, x⟩, ⟨S1024x128, x⟩] h = cat8 x := rfl

theorem fold2 (x : FVec F S1024x128 .f32) (h) :
    concatenate S1024x256 1 [⟨S1024x128, x⟩, ⟨S1024x128, x⟩] h = cat2 x := rfl

/-- The scores of one half of the queries against a block of keys. -/
def sc (q kb : Vec F S1024x128 .bf16) : FVec F S1x1024x1024 .f32 := k0_pay1 q kb

/-- The running maximum after a block of scores. -/
def mNew (s : Vec F S1x1024x1024 .f32) (m : Vec F S1x1024x128 .f32) : FVec F S1x1024x128 .f32 := k0_pay9 (k0_pay5 s m)

/-- The running sums after a block of scores `s` whose values (and ones) are `vx`. -/
def aNew (vx : Vec F S1024x256 .bf16) (s : Vec F S1x1024x1024 .f32) (m : Vec F S1x1024x128 .f32) (a : Vec F S1x1024x256 .f32) :
    FVec F S1x1024x256 .f32 := k0_pay8 vx (k0_pay6 s m) (k0_pay7 s m) a

/-- The running maximum of one half, read off the array of both. -/
def rdm (v : View sig .tc .vmem S2x1024x128 .f32) (h : Fin 2) (f : v.ty.Contents (Elt F)) : Vec F S1x1024x128 .f32 :=
  match h with
  | 0 => v.readAt (Elt F) (Rect.unit (s := S2x1024x128) ![0, 0, 0] S1x1024x128.size (by decide)).toLoadRect f
  | 1 => v.readAt (Elt F) (Rect.unit (s := S2x1024x128) ![1, 0, 0] S1x1024x128.size (by decide)).toLoadRect f

/-- The running sums of one half, read off the array of both. -/
def rda (v : View sig .tc .vmem S2x1024x256 .f32) (h : Fin 2) (f : v.ty.Contents (Elt F)) : Vec F S1x1024x256 .f32 :=
  match h with
  | 0 => v.readAt (Elt F) (Rect.unit (s := S2x1024x256) ![0, 0, 0] S1x1024x256.size (by decide)).toLoadRect f
  | 1 => v.readAt (Elt F) (Rect.unit (s := S2x1024x256) ![1, 0, 0] S1x1024x256.size (by decide)).toLoadRect f

/-- The stored scores of one half, read off the array of both. -/
def rds (v : View sig .tc .vmem S2x1024x1024 .f32) (h : Fin 2) (f : v.ty.Contents (Elt F)) : Vec F S1x1024x1024 .f32 :=
  match h with
  | 0 => v.readAt (Elt F) (Rect.unit (s := S2x1024x1024) ![0, 0, 0] S1x1024x1024.size (by decide)).toLoadRect f
  | 1 => v.readAt (Elt F) (Rect.unit (s := S2x1024x1024) ![1, 0, 0] S1x1024x1024.size (by decide)).toLoadRect f

theorem trip_m0 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (arg1 : BitVec 32) (v20 : FVec F S1024x128 .bf16) (v23 : FVec F S1024x128 .bf16) (c0_i32_18 : BitVec 32) (X_arg5 : BufTy.Contents (Elt F) arg5.view.ty) (X_arg8 : BufTy.Contents (Elt F) arg8.view.ty) (k : Fin (k0_t1_loop i).trips)
   (f9 : BufTy.Contents (Elt F) arg9.view.ty) (f10 : BufTy.Contents (Elt F) arg10.view.ty) (f11 : BufTy.Contents (Elt F) arg11.view.ty) (f12 : BufTy.Contents (Elt F) arg12.view.ty) :
   rdm arg9.view 0 (arg9.view.writes (Elt F) f9 (tripL_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 k f9 f10 f11 f12).1)
     = mNew (sc v20 (arg5.view.readAt (Elt F) (Rect.unit (s := S16384x128) (k0_off1 i k 1#32) S1024x128.size (k0_off1_inb i k 0)).toLoadRect X_arg5)) (mNew (rds arg11.view 0 f11) (rdm arg9.view 0 f9)) := by
  unfold tripL_k0_t1 trip_k0_t1
  dsimp only [rdm, rda, rds]
  sl_unfold_run_names
  simp (disch := decide) only [readAt_writes_head, readAt_writes_skip, View.readCov_skip, View.readCov_cons_toLoadRect, View.writes_nil, ↓ fold8, ↓ fold2]
  rfl

theorem trip_a0 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (arg1 : BitVec 32) (v20 : FVec F S1024x128 .bf16) (v23 : FVec F S1024x128 .bf16) (c0_i32_18 : BitVec 32) (X_arg5 : BufTy.Contents (Elt F) arg5.view.ty) (X_arg8 : BufTy.Contents (Elt F) arg8.view.ty) (k : Fin (k0_t1_loop i).trips)
   (f9 : BufTy.Contents (Elt F) arg9.view.ty) (f10 : BufTy.Contents (Elt F) arg10.view.ty) (f11 : BufTy.Contents (Elt F) arg11.view.ty) (f12 : BufTy.Contents (Elt F) arg12.view.ty) :
   rda arg10.view 0 (arg10.view.writes (Elt F) f10 (tripL_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 k f9 f10 f11 f12).2.1)
     = aNew (arg8.view.readAt (Elt F) (Rect.unit (s := S16384x256) (k0_off3 i k) S1024x256.size (k0_off3_inb i k)).toLoadRect X_arg8) (sc v20 (arg5.view.readAt (Elt F) (Rect.unit (s := S16384x128) (k0_off1 i k 1#32) S1024x128.size (k0_off1_inb i k 0)).toLoadRect X_arg5)) (mNew (rds arg11.view 0 f11) (rdm arg9.view 0 f9)) (aNew (arg8.view.readAt (Elt F) (Rect.unit (s := S16384x256) (k0_off2 i k) S1024x256.size (k0_off2_inb i k)).toLoadRect X_arg8) (rds arg11.view 0 f11) (rdm arg9.view 0 f9) (rda arg10.view 0 f10)) := by
  unfold tripL_k0_t1 trip_k0_t1
  dsimp only [rdm, rda, rds]
  sl_unfold_run_names
  simp (disch := decide) only [readAt_writes_head, readAt_writes_skip, View.readCov_skip, View.readCov_cons_toLoadRect, View.writes_nil, ↓ fold8, ↓ fold2]
  rfl

theorem trip_s0 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (arg1 : BitVec 32) (v20 : FVec F S1024x128 .bf16) (v23 : FVec F S1024x128 .bf16) (c0_i32_18 : BitVec 32) (X_arg5 : BufTy.Contents (Elt F) arg5.view.ty) (X_arg8 : BufTy.Contents (Elt F) arg8.view.ty) (k : Fin (k0_t1_loop i).trips)
   (f9 : BufTy.Contents (Elt F) arg9.view.ty) (f10 : BufTy.Contents (Elt F) arg10.view.ty) (f11 : BufTy.Contents (Elt F) arg11.view.ty) (f12 : BufTy.Contents (Elt F) arg12.view.ty) :
   rds arg11.view 0 (arg11.view.writes (Elt F) f11 (tripL_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 k f9 f10 f11 f12).2.2.1)
     = sc v20 (arg5.view.readAt (Elt F) (Rect.unit (s := S16384x128) (k0_off1 i k 2#32) S1024x128.size (k0_off1_inb i k 1)).toLoadRect X_arg5) := by
  unfold tripL_k0_t1 trip_k0_t1
  dsimp only [rdm, rda, rds]
  sl_unfold_run_names
  simp (disch := decide) only [readAt_writes_head, readAt_writes_skip, View.readCov_skip, View.readCov_cons_toLoadRect, View.writes_nil, ↓ fold8, ↓ fold2]
  rfl

theorem trip_m1 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (arg1 : BitVec 32) (v20 : FVec F S1024x128 .bf16) (v23 : FVec F S1024x128 .bf16) (c0_i32_18 : BitVec 32) (X_arg5 : BufTy.Contents (Elt F) arg5.view.ty) (X_arg8 : BufTy.Contents (Elt F) arg8.view.ty) (k : Fin (k0_t1_loop i).trips)
   (f9 : BufTy.Contents (Elt F) arg9.view.ty) (f10 : BufTy.Contents (Elt F) arg10.view.ty) (f11 : BufTy.Contents (Elt F) arg11.view.ty) (f12 : BufTy.Contents (Elt F) arg12.view.ty) :
   rdm arg9.view 1 (arg9.view.writes (Elt F) f9 (tripL_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 k f9 f10 f11 f12).1)
     = mNew (sc v23 (arg5.view.readAt (Elt F) (Rect.unit (s := S16384x128) (k0_off1 i k 1#32) S1024x128.size (k0_off1_inb i k 0)).toLoadRect X_arg5)) (mNew (rds arg11.view 1 f11) (rdm arg9.view 1 f9)) := by
  unfold tripL_k0_t1 trip_k0_t1
  dsimp only [rdm, rda, rds]
  sl_unfold_run_names
  simp (disch := decide) only [readAt_writes_head, readAt_writes_skip, View.readCov_skip, View.readCov_cons_toLoadRect, View.writes_nil, ↓ fold8, ↓ fold2]
  rfl

theorem trip_a1 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (arg1 : BitVec 32) (v20 : FVec F S1024x128 .bf16) (v23 : FVec F S1024x128 .bf16) (c0_i32_18 : BitVec 32) (X_arg5 : BufTy.Contents (Elt F) arg5.view.ty) (X_arg8 : BufTy.Contents (Elt F) arg8.view.ty) (k : Fin (k0_t1_loop i).trips)
   (f9 : BufTy.Contents (Elt F) arg9.view.ty) (f10 : BufTy.Contents (Elt F) arg10.view.ty) (f11 : BufTy.Contents (Elt F) arg11.view.ty) (f12 : BufTy.Contents (Elt F) arg12.view.ty) :
   rda arg10.view 1 (arg10.view.writes (Elt F) f10 (tripL_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 k f9 f10 f11 f12).2.1)
     = aNew (arg8.view.readAt (Elt F) (Rect.unit (s := S16384x256) (k0_off3 i k) S1024x256.size (k0_off3_inb i k)).toLoadRect X_arg8) (sc v23 (arg5.view.readAt (Elt F) (Rect.unit (s := S16384x128) (k0_off1 i k 1#32) S1024x128.size (k0_off1_inb i k 0)).toLoadRect X_arg5)) (mNew (rds arg11.view 1 f11) (rdm arg9.view 1 f9)) (aNew (arg8.view.readAt (Elt F) (Rect.unit (s := S16384x256) (k0_off2 i k) S1024x256.size (k0_off2_inb i k)).toLoadRect X_arg8) (rds arg11.view 1 f11) (rdm arg9.view 1 f9) (rda arg10.view 1 f10)) := by
  unfold tripL_k0_t1 trip_k0_t1
  dsimp only [rdm, rda, rds]
  sl_unfold_run_names
  simp (disch := decide) only [readAt_writes_head, readAt_writes_skip, View.readCov_skip, View.readCov_cons_toLoadRect, View.writes_nil, ↓ fold8, ↓ fold2]
  rfl

theorem trip_s1 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (arg1 : BitVec 32) (v20 : FVec F S1024x128 .bf16) (v23 : FVec F S1024x128 .bf16) (c0_i32_18 : BitVec 32) (X_arg5 : BufTy.Contents (Elt F) arg5.view.ty) (X_arg8 : BufTy.Contents (Elt F) arg8.view.ty) (k : Fin (k0_t1_loop i).trips)
   (f9 : BufTy.Contents (Elt F) arg9.view.ty) (f10 : BufTy.Contents (Elt F) arg10.view.ty) (f11 : BufTy.Contents (Elt F) arg11.view.ty) (f12 : BufTy.Contents (Elt F) arg12.view.ty) :
   rds arg11.view 1 (arg11.view.writes (Elt F) f11 (tripL_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 k f9 f10 f11 f12).2.2.1)
     = sc v23 (arg5.view.readAt (Elt F) (Rect.unit (s := S16384x128) (k0_off1 i k 2#32) S1024x128.size (k0_off1_inb i k 1)).toLoadRect X_arg5) := by
  unfold tripL_k0_t1 trip_k0_t1
  dsimp only [rdm, rda, rds]
  sl_unfold_run_names
  simp (disch := decide) only [readAt_writes_head, readAt_writes_skip, View.readCov_skip, View.readCov_cons_toLoadRect, View.writes_nil, ↓ fold8, ↓ fold2]
  rfl

end Cert.KernelIdeal.Attn
end
-- ==== Proof.Loop.lean ====
/-
  The running maximum and sums after any number of key blocks, and the loop that makes them.

  `mAt`, `aAt` fold the blocks of keys one at a time, as `Trip.lean`'s functions do. After `k` trips the loop's arrays
  hold, in each half, the fold of the first `2 k` blocks, and the stored scores are those of block `2 k`.
-/
module

public import proofs.«01_k».proof.Proof.Trip

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- The running maximum after the first `j` blocks of keys. -/
def mAt (q : Vec F S1024x128 .bf16) (kb : ℕ → Vec F S1024x128 .bf16) (m : Vec F S1x1024x128 .f32) : ℕ → Vec F S1x1024x128 .f32
  | 0 => m
  | j + 1 => mNew (sc q (kb j)) (mAt q kb m j)

/-- The running sums after the first `j` blocks of keys. -/
def aAt (q : Vec F S1024x128 .bf16) (kb : ℕ → Vec F S1024x128 .bf16) (vb : ℕ → Vec F S1024x256 .bf16) (m : Vec F S1x1024x128 .f32)
    (a : Vec F S1x1024x256 .f32) : ℕ → Vec F S1x1024x256 .f32
  | 0 => a
  | j + 1 => aNew (vb j) (sc q (kb j)) (mAt q kb m j) (aAt q kb vb m a j)

/-- The loop's arrays in half 0 after `k` trips. -/
theorem after_trips0 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (arg1 : BitVec 32) (v20 : FVec F S1024x128 .bf16) (v23 : FVec F S1024x128 .bf16) (c0_i32_18 : BitVec 32) (X_arg5 : BufTy.Contents (Elt F) arg5.view.ty) (X_arg8 : BufTy.Contents (Elt F) arg8.view.ty)
    (G9 : BufTy.Contents (Elt F) arg9.view.ty) (G10 : BufTy.Contents (Elt F) arg10.view.ty) (G11 : BufTy.Contents (Elt F) arg11.view.ty) (G12 : BufTy.Contents (Elt F) arg12.view.ty)
    (kb : ℕ → Vec F S1024x128 .bf16) (vb : ℕ → Vec F S1024x256 .bf16) (M : Vec F S1x1024x128 .f32) (A : Vec F S1x1024x256 .f32)
    (hk1 : ∀ k : Fin (k0_t1_loop i).trips, arg5.view.readAt (Elt F) (Rect.unit (s := S16384x128) (k0_off1 i k 1#32) S1024x128.size (k0_off1_inb i k 0)).toLoadRect X_arg5 = kb (2 * k.val + 1))
    (hk2 : ∀ k : Fin (k0_t1_loop i).trips, arg5.view.readAt (Elt F) (Rect.unit (s := S16384x128) (k0_off1 i k 2#32) S1024x128.size (k0_off1_inb i k 1)).toLoadRect X_arg5 = kb (2 * k.val + 2))
    (hv2 : ∀ k : Fin (k0_t1_loop i).trips, arg8.view.readAt (Elt F) (Rect.unit (s := S16384x256) (k0_off2 i k) S1024x256.size (k0_off2_inb i k)).toLoadRect X_arg8 = vb (2 * k.val))
    (hv3 : ∀ k : Fin (k0_t1_loop i).trips, arg8.view.readAt (Elt F) (Rect.unit (s := S16384x256) (k0_off3 i k) S1024x256.size (k0_off3_inb i k)).toLoadRect X_arg8 = vb (2 * k.val + 1))
    (h9 : rdm arg9.view 0 G9 = M) (h10 : rda arg10.view 0 G10 = A) (h11 : rds arg11.view 0 G11 = sc v20 (kb 0)) :
    ∀ k : ℕ, k ≤ (k0_t1_loop i).trips →
      rdm arg9.view 0 (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).1) = mAt v20 kb M (2 * k)
      ∧ rda arg10.view 0 (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.1) = aAt v20 kb vb M A (2 * k)
      ∧ rds arg11.view 0 (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.1) = sc v20 (kb (2 * k)) := by
  intro k
  induction k with
  | zero => exact fun _ => ⟨h9, h10, h11⟩
  | succ k ih =>
    intro hk
    obtain ⟨i9, i10, i11⟩ := ih (by omega)
    have e := pb_k0_t1_succ (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 ⟨k, hk⟩
    dsimp only at e
    rw [e]
    dsimp only
    simp only [View.writes_append]
    refine ⟨?_, ?_, ?_⟩
    · refine (trip_m0 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 ⟨k, hk⟩ (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).1) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.1) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.1) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.2)).trans ?_
      rw [i9, i11, hk1 ⟨k, hk⟩]
      rfl
    · refine (trip_a0 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 ⟨k, hk⟩ (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).1) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.1) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.1) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.2)).trans ?_
      rw [i9, i10, i11, hk1 ⟨k, hk⟩, hv2 ⟨k, hk⟩, hv3 ⟨k, hk⟩]
      rfl
    · refine (trip_s0 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 ⟨k, hk⟩ (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).1) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.1) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.1) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.2)).trans ?_
      rw [hk2 ⟨k, hk⟩]
      rfl

/-- The loop's arrays in half 1 after `k` trips. -/
theorem after_trips1 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (arg1 : BitVec 32) (v20 : FVec F S1024x128 .bf16) (v23 : FVec F S1024x128 .bf16) (c0_i32_18 : BitVec 32) (X_arg5 : BufTy.Contents (Elt F) arg5.view.ty) (X_arg8 : BufTy.Contents (Elt F) arg8.view.ty)
    (G9 : BufTy.Contents (Elt F) arg9.view.ty) (G10 : BufTy.Contents (Elt F) arg10.view.ty) (G11 : BufTy.Contents (Elt F) arg11.view.ty) (G12 : BufTy.Contents (Elt F) arg12.view.ty)
    (kb : ℕ → Vec F S1024x128 .bf16) (vb : ℕ → Vec F S1024x256 .bf16) (M : Vec F S1x1024x128 .f32) (A : Vec F S1x1024x256 .f32)
    (hk1 : ∀ k : Fin (k0_t1_loop i).trips, arg5.view.readAt (Elt F) (Rect.unit (s := S16384x128) (k0_off1 i k 1#32) S1024x128.size (k0_off1_inb i k 0)).toLoadRect X_arg5 = kb (2 * k.val + 1))
    (hk2 : ∀ k : Fin (k0_t1_loop i).trips, arg5.view.readAt (Elt F) (Rect.unit (s := S16384x128) (k0_off1 i k 2#32) S1024x128.size (k0_off1_inb i k 1)).toLoadRect X_arg5 = kb (2 * k.val + 2))
    (hv2 : ∀ k : Fin (k0_t1_loop i).trips, arg8.view.readAt (Elt F) (Rect.unit (s := S16384x256) (k0_off2 i k) S1024x256.size (k0_off2_inb i k)).toLoadRect X_arg8 = vb (2 * k.val))
    (hv3 : ∀ k : Fin (k0_t1_loop i).trips, arg8.view.readAt (Elt F) (Rect.unit (s := S16384x256) (k0_off3 i k) S1024x256.size (k0_off3_inb i k)).toLoadRect X_arg8 = vb (2 * k.val + 1))
    (h9 : rdm arg9.view 1 G9 = M) (h10 : rda arg10.view 1 G10 = A) (h11 : rds arg11.view 1 G11 = sc v23 (kb 0)) :
    ∀ k : ℕ, k ≤ (k0_t1_loop i).trips →
      rdm arg9.view 1 (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).1) = mAt v23 kb M (2 * k)
      ∧ rda arg10.view 1 (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.1) = aAt v23 kb vb M A (2 * k)
      ∧ rds arg11.view 1 (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.1) = sc v23 (kb (2 * k)) := by
  intro k
  induction k with
  | zero => exact fun _ => ⟨h9, h10, h11⟩
  | succ k ih =>
    intro hk
    obtain ⟨i9, i10, i11⟩ := ih (by omega)
    have e := pb_k0_t1_succ (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 ⟨k, hk⟩
    dsimp only at e
    rw [e]
    dsimp only
    simp only [View.writes_append]
    refine ⟨?_, ?_, ?_⟩
    · refine (trip_m1 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 ⟨k, hk⟩ (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).1) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.1) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.1) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.2)).trans ?_
      rw [i9, i11, hk1 ⟨k, hk⟩]
      rfl
    · refine (trip_a1 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 ⟨k, hk⟩ (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).1) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.1) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.1) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.2)).trans ?_
      rw [i9, i10, i11, hk1 ⟨k, hk⟩, hv2 ⟨k, hk⟩, hv3 ⟨k, hk⟩]
      rfl
    · refine (trip_s1 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 ⟨k, hk⟩ (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).1) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.1) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.1) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg1 v20 v23 c0_i32_18 X_arg5 X_arg8 G9 G10 G11 G12 k).2.2.2)).trans ?_
      rw [hk2 ⟨k, hk⟩]
      rfl

end Cert.KernelIdeal.Attn
end
-- ==== Proof.Body.lean ====
module

public import proofs.«01_k».proof.Proof.Loop
public import proofs.«01_k».proof.Proof.Gen.KernelIdeal.Frame.Runs

/-!
# What the body computes, and what its run reads

`outV` is the block of the result one grid point leaves, as a term over the point's blocks. The lemmas
below the definitions read back, piece by piece, what a run of the body has stored, so that the three
runs (`RunA`, `RunB`, `RunC`) end at `outV`.
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Block `j` of the keys: rows `1024 j` on. -/
def kblk (x : Vec F S16384x128 .bf16) (j : ℕ) : Vec F S1024x128 .bf16 := fun y => x fun a => match a with
  | ⟨0, _⟩ => ⟨(1024 * j + (y 0).val) % 16384, Nat.mod_lt _ (by decide)⟩
  | ⟨1, _⟩ => ⟨(y 1).val, (y 1).isLt⟩

/-- Block `j` of the values beside ones. -/
def vblk (x : Vec F S16384x256 .bf16) (j : ℕ) : Vec F S1024x256 .bf16 := fun y => x fun a => match a with
  | ⟨0, _⟩ => ⟨(1024 * j + (y 0).val) % 16384, Nat.mod_lt _ (by decide)⟩
  | ⟨1, _⟩ => ⟨(y 1).val, (y 1).isLt⟩

/-- The running maximum before any key. -/
def m0 : Vec F S1x1024x128 .f32 := broadcast S1x1024x128 (Scalar.ofBits .f32 0xFF800000#32)

/-- The running sums before any key. -/
def a0 : Vec F S1x1024x256 .f32 := broadcast S1x1024x256 (Scalar.ofBits .f32 0x00000000#32)

/-- The running sums of one half at the end of query block `n`: the blocks before the diagonal, then the masked one. -/
def aEnd (q : Vec F S1024x128 .bf16) (x3 : Vec F S16384x128 .bf16) (xs : Vec F S16384x256 .bf16) (n : ℕ) : Vec F S1x1024x256 .f32 :=
  k0_pay85 (vblk xs n) (sc q (kblk x3 n)) (mAt q (kblk x3) m0 n) (aAt q (kblk x3) (vblk xs) m0 a0 n)

/-- What the body leaves in its output block. -/
def outV (i : grid0.Coords) (x0 : Vec F S4x64 .f32) (x1 : Vec F S1x128 .f32) (x2 : Vec F S1024x128 .bf16) (x3 : Vec F S16384x128 .bf16)
    (xs : Vec F S16384x256 .bf16) : Vec F S1024x128 .bf16 :=
  k0_pay93 (k0_pay92 x0) (aEnd (k0_pay72 x2) x3 xs (i 1).val) (aEnd (k0_pay73 x2) x3 xs (i 1).val) x1

/-- The values beside ones: the values in the first 128 lanes, ones in the others. -/
def vxOf (x4 : Vec F S16384x128 .bf16) : Vec F S16384x256 .bf16 := fun y =>
  if h : (y 1).val < 128 then x4 (fun a => match a with
    | ⟨0, _⟩ => ⟨(y 0).val, (y 0).isLt⟩
    | ⟨1, _⟩ => ⟨(y 1).val, h⟩) else Scalar.ofBits .bf16 0x3F80#16

/-- The second loop, over what is left after the doubled one, makes no trip. -/
theorem trips2 (i : grid0.Coords) : Scf.trips (k0_t2_loop i).lb (k0_t2_loop i).ub (k0_t2_loop i).st = 0 :=
  Nat.le_zero.mp (k0_t2_abs i).2.1

/-- The doubled loop makes a trip for each pair of key blocks before the diagonal. -/
theorem trips1 (i : grid0.Coords) : (k0_t1_loop i).trips = (i 1).val / 2 := by
  have h : ∀ n : Fin 16, Scf.trips (0#32) (Scalar.addi (0#32) (Scalar.muli (Scalar.divsi (Scalar.subi (Scalar.select (Scalar.andi
      (Scalar.cmpi CmpIPredicate.ne (Scalar.subi (Scalar.extui (Scalar.cmpi CmpIPredicate.sgt (BitVec.ofNat 32 n.val) 0#32))
      (Scalar.extui (Scalar.cmpi CmpIPredicate.slt (BitVec.ofNat 32 n.val) 0#32))) (Scalar.subi (Scalar.extui (Scalar.cmpi CmpIPredicate.sgt 2#32 0#32))
      (Scalar.extui (Scalar.cmpi CmpIPredicate.slt 2#32 0#32)))) (Scalar.cmpi CmpIPredicate.ne (Scalar.remsi (BitVec.ofNat 32 n.val) 2#32) 0#32))
      (Scalar.subi (Scalar.divsi (BitVec.ofNat 32 n.val) 2#32) 1#32) (Scalar.divsi (BitVec.ofNat 32 n.val) 2#32)) 0#32) 1#32) 1#32)) 1#32 = n.val / 2 := by
    decide +kernel
  exact h (i 1)

theorem trips_lt (i : grid0.Coords) (k : Fin (k0_t1_loop i).trips) : k.val < 7 := Nat.lt_of_lt_of_le k.isLt (k0_t1_abs i).2.1

theorem off1_one (i : grid0.Coords) (k : Fin (k0_t1_loop i).trips) : k0_off1 i k 1#32 = ![1024 * (2 * k.val + 1), 0] := by
  have h : ∀ n : Fin 7, (Scalar.indexCast (Scalar.muli (Scalar.addi (Scalar.muli 2#32 (Scf.iv 0#32 1#32 n.val)) 1#32) 1024#32)).toNat = 1024 * (2 * n.val + 1) := by
    decide +kernel
  funext a; fin_cases a
  · exact h ⟨k.val, trips_lt i k⟩
  · rfl

theorem off1_two (i : grid0.Coords) (k : Fin (k0_t1_loop i).trips) : k0_off1 i k 2#32 = ![1024 * (2 * k.val + 2), 0] := by
  have h : ∀ n : Fin 7, (Scalar.indexCast (Scalar.muli (Scalar.addi (Scalar.muli 2#32 (Scf.iv 0#32 1#32 n.val)) 2#32) 1024#32)).toNat = 1024 * (2 * n.val + 2) := by
    decide +kernel
  funext a; fin_cases a
  · exact h ⟨k.val, trips_lt i k⟩
  · rfl

theorem off2_eq (i : grid0.Coords) (k : Fin (k0_t1_loop i).trips) : k0_off2 i k = ![1024 * (2 * k.val), 0] := by
  have h : ∀ n : Fin 7, (Scalar.indexCast (Scalar.muli (Scalar.muli 2#32 (Scf.iv 0#32 1#32 n.val)) 1024#32)).toNat = 1024 * (2 * n.val) := by
    decide +kernel
  funext a; fin_cases a
  · exact h ⟨k.val, trips_lt i k⟩
  · rfl

theorem off3_eq (i : grid0.Coords) (k : Fin (k0_t1_loop i).trips) : k0_off3 i k = ![1024 * (2 * k.val + 1), 0] := by
  have h : ∀ n : Fin 7, (Scalar.indexCast (Scalar.muli (Scalar.addi (Scalar.muli 2#32 (Scf.iv 0#32 1#32 n.val)) 1#32) 1024#32)).toNat = 1024 * (2 * n.val + 1) := by
    decide +kernel
  funext a; fin_cases a
  · exact h ⟨k.val, trips_lt i k⟩
  · rfl

/-- A load of a stretch of whole rows of the keys reads those rows. -/
theorem ld_keys (arg5 : Memref sig .tc .vmem S16384x128 .bf16) (harg5 : arg5.IsWhole) (x : Vec F S16384x128 .bf16) (off : Fin 2 → ℕ) (j : ℕ)
    (hj : off = ![1024 * j, 0]) (inb) :
    arg5.view.readAt (Elt F) (Rect.unit (s := S16384x128) off S1024x128.size inb).toLoadRect (harg5.unread x) = kblk x j := by
  subst hj
  funext y
  refine (congrFun (harg5.read_unread x) _).trans (congrArg x (funext fun a => ?_))
  have h0 : 1024 * j + 1024 ≤ 16384 := inb 0
  have hy : (y 0).val < 1024 := (y 0).isLt
  fin_cases a
  · refine Fin.ext ?_
    show 1024 * j + 1 * (y 0).val = (1024 * j + (y 0).val) % 16384
    omega
  · refine Fin.ext ?_
    show 0 + 1 * (y 1).val = (y 1).val
    omega

/-- The same of the values beside ones, from any contents that read as them. -/
theorem ld_vals (arg8 : Memref sig .tc .vmem S16384x256 .bf16) {X : BufTy.Contents (Elt F) arg8.view.ty} {x : Vec F S16384x256 .bf16}
    (hX : arg8.view.read (Elt F) X = x) (off : Fin 2 → ℕ) (j : ℕ) (hj : off = ![1024 * j, 0]) (inb) :
    arg8.view.readAt (Elt F) (Rect.unit (s := S16384x256) off S1024x256.size inb).toLoadRect X = vblk x j := by
  subst hj
  funext y
  refine (congrFun hX _).trans (congrArg x (funext fun a => ?_))
  have h0 : 1024 * j + 1024 ≤ 16384 := inb 0
  have hy : (y 0).val < 1024 := (y 0).isLt
  fin_cases a
  · refine Fin.ext ?_
    show 1024 * j + 1 * (y 0).val = (1024 * j + (y 0).val) % 16384
    omega
  · refine Fin.ext ?_
    show 0 + 1 * (y 1).val = (y 1).val
    omega

/-- A load of the whole of a buffer reads its contents. -/
theorem ld_whole {s : Shape} {e : EltTy} (a : Memref sig .tc .vmem s e) (ha : a.IsWhole) (x : Vec F s e) (off : Fin s.rank → ℕ)
    (hoff : ∀ b, off b = 0) (inb) : a.view.readAt (Elt F) (Rect.unit (s := s) off s.size inb).toLoadRect (ha.unread x) = x := by
  funext y
  refine (congrFun (ha.read_unread x) _).trans (congrArg x (funext fun b => Fin.ext ?_))
  show off b + 1 * (y b).val = (y b).val
  rw [hoff b]; omega

/-- A load after a store of the whole buffer reads a part of what was stored. -/
theorem ld_fill {s : Shape} {e : EltTy} (v : View sig .tc .vmem s e) (f : v.ty.Contents (Elt F)) (off : Fin s.rank → ℕ)
    (hoff : ∀ b, off b = 0) (inb) (w : Vec F s e) (B : LoadRect s) :
    v.readAt (Elt F) B (v.writes (Elt F) f [⟨Rect.unit (s := s) off s.size inb, w⟩]) = fun y => w (B.idx y) := by
  funext y
  have hemb : (Rect.unit (s := s) off s.size inb).emb (B.idx y) = B.idx y := funext fun b => Fin.ext (by
    show off b + 1 * (B.idx y b).val = (B.idx y b).val
    rw [hoff b]; omega)
  have := View.read_writes_cons_emb v f (Rect.unit (s := s) off s.size inb) w [] (B.idx y)
  rw [hemb] at this
  exact this

/-- A load through the rectangle of the last store, then through what came before it. -/
theorem cov_app {s : Shape} {e : EltTy} (v : View sig .tc .vmem s e) (L M : List (View.Piece (Elt F) s e)) (B : LoadRect s) :
    v.readCov (L ++ M) B = v.readAt (Elt F) B (v.writes (Elt F) (v.writes (Elt F) v.junk M) L) := by
  rw [View.readCov, View.writes_append]

theorem e74 (q : Vec F S1024x128 .bf16) (kb : Vec F S1024x128 .bf16) : k0_pay74 q kb = sc (k0_pay72 q) kb := rfl
theorem e75 (q : Vec F S1024x128 .bf16) (kb : Vec F S1024x128 .bf16) : k0_pay75 q kb = sc q kb := rfl
theorem e90 (vb : Vec F S1024x256 .bf16) (s m a) : k0_pay90 vb k0_pay81 s m a = k0_pay85 (F := F) vb s m a := rfl

/-- The diagonal block's sums, from its parts. -/
theorem aEnd_of (q : Vec F S1024x128 .bf16) (x3 : Vec F S16384x128 .bf16) (xs : Vec F S16384x256 .bf16) (n : ℕ) {vb s m a}
    (hv : vb = vblk xs n) (hs : s = sc q (kblk x3 n)) (hm : m = mAt q (kblk x3) m0 n) (ha : a = aAt q (kblk x3) (vblk xs) m0 a0 n) :
    k0_pay85 vb s m a = aEnd q x3 xs n := by
  subst hv hs hm ha; rfl

/-- The output block, from its parts. -/
theorem outV_of (i : grid0.Coords) (x0 : Vec F S4x64 .f32) (x1 : Vec F S1x128 .f32) (x2 : Vec F S1024x128 .bf16) (x3 : Vec F S16384x128 .bf16)
    (xs : Vec F S16384x256 .bf16) {y0 y1 b0 b1} (h0 : y0 = x0) (h1 : y1 = x1) (hb0 : b0 = aEnd (k0_pay72 x2) x3 xs (i 1).val)
    (hb1 : b1 = aEnd (k0_pay73 x2) x3 xs (i 1).val) : k0_pay93 (k0_pay92 y0) b0 b1 y1 = outV i x0 x1 x2 x3 xs := by
  subst h0 h1 hb0 hb1; rfl

/-- What is read after a store of the whole buffer. -/
theorem read_fill {s : Shape} {e : EltTy} (v : View sig .tc .vmem s e) (f : v.ty.Contents (Elt F)) (off : Fin s.rank → ℕ)
    (hoff : ∀ b, off b = 0) (inb) (w : Vec F s e) :
    v.read (Elt F) (v.writes (Elt F) f [⟨Rect.unit (s := s) off s.size inb, w⟩]) = w := by
  funext y
  have hemb : (Rect.unit (s := s) off s.size inb).emb y = y := funext fun b => Fin.ext (by
    show off b + 1 * (y b).val = (y b).val
    rw [hoff b]; omega)
  have := View.read_writes_cons_emb v f (Rect.unit (s := s) off s.size inb) w [] y
  rw [hemb] at this
  exact this

theorem mNew_of {s s' : Vec F S1x1024x1024 .f32} {m m' : Vec F S1x1024x128 .f32} (hs : s = s') (hm : m = m') : mNew s m = mNew s' m' := by
  subst hs hm; rfl

theorem aNew_of {vb vb' : Vec F S1024x256 .bf16} {s s' : Vec F S1x1024x1024 .f32} {m m' : Vec F S1x1024x128 .f32} {a a' : Vec F S1x1024x256 .f32}
    (hv : vb = vb') (hs : s = s') (hm : m = m') (ha : a = a') : aNew vb s m a = aNew vb' s' m' a' := by
  subst hv hs hm ha; rfl

/-- The second condition asks for an odd block. -/
theorem cond1_iff (i : grid0.Coords) : cond0_1 i ↔ (i 1).val % 2 = 1 := by
  have h : ∀ n : Fin 16, k0_cond2 (fun a => match a with | ⟨0, _⟩ => ⟨0, (by decide : 0 < 8)⟩ | ⟨1, _⟩ => n) = 1#1 ↔ n.val % 2 = 1 := by
    decide +kernel
  exact h (i 1)

theorem off7_eq (i : grid0.Coords) (h : cond0_1 i) : k0_off7 i = ![1024 * ((i 1).val - 1), 0] := by
  have e : ∀ n : Fin 16, n.val % 2 = 1 → k0_off7 (fun a => match a with | ⟨0, _⟩ => ⟨0, (by decide : 0 < 8)⟩ | ⟨1, _⟩ => n) = ![1024 * (n.val - 1), 0] := by
    decide +kernel
  exact e (i 1) ((cond1_iff i).mp h)

/-- What the two stores of the first block leave beside the ones: the values. -/
theorem read_vx (arg8 : Memref sig .tc .vmem S16384x256 .bf16) (f) (x : Vec F S16384x128 .bf16) :
    arg8.view.read (Elt F) (arg8.view.writes (Elt F) f
      [⟨Rect.unit (s := S16384x256) ![0, 128] S16384x128.size inb_S16384x256_S16384x128_0_128, k0_pay67⟩,
        ⟨Rect.unit (s := S16384x256) ![0, 0] S16384x128.size inb_S16384x256_S16384x128_0_0, k0_pay66 x⟩]) = vxOf x := by
  funext y
  unfold vxOf
  split
  · rename_i h
    have hd : LoadRect.disj (Rect.unit (s := S16384x256) ![0, 128] S16384x128.size inb_S16384x256_S16384x128_0_128)
        (Rect.unit (s := S16384x256) ![0, 0] S16384x128.size inb_S16384x256_S16384x128_0_0).toLoadRect = true := by decide
    have e : y = (Rect.unit (s := S16384x256) ![0, 0] S16384x128.size inb_S16384x256_S16384x128_0_0).emb
        (fun a => match a with | ⟨0, _⟩ => ⟨(y 0).val, (y 0).isLt⟩ | ⟨1, _⟩ => ⟨(y 1).val, h⟩) := by
      funext a
      refine Fin.ext ?_
      fin_cases a
      · show (y 0).val = 0 + 1 * (y 0).val; omega
      · show (y 1).val = 0 + 1 * (y 1).val; omega
    have r := congrFun (readAt_writes_skip arg8.view f _ (k0_pay67 (F := F)) [⟨Rect.unit (s := S16384x256) ![0, 0] S16384x128.size inb_S16384x256_S16384x128_0_0, k0_pay66 x⟩] _ hd)
      (fun a => match a with | ⟨0, _⟩ => ⟨(y 0).val, (y 0).isLt⟩ | ⟨1, _⟩ => ⟨(y 1).val, h⟩)
    rw [readAt_writes_head] at r
    conv_lhs => rw [e]
    refine r.trans ?_
    unfold k0_pay66
    dsimp only
    rw [shapeCast_self]
    rfl
  · rename_i h
    have hy : (y 1).val < 256 := (y 1).isLt
    have e : y = (Rect.unit (s := S16384x256) ![0, 128] S16384x128.size inb_S16384x256_S16384x128_0_128).emb
        (fun a => match a with | ⟨0, _⟩ => ⟨(y 0).val, (y 0).isLt⟩ | ⟨1, _⟩ => ⟨(y 1).val - 128, (by omega : (y 1).val - 128 < 128)⟩) := by
      funext a
      refine Fin.ext ?_
      fin_cases a
      · show (y 0).val = 0 + 1 * (y 0).val; omega
      · show (y 1).val = 128 + 1 * ((y 1).val - 128); omega
    conv_lhs => rw [e]
    exact View.read_writes_cons_emb _ _ _ _ _ _

/-- What the loop leaves in both halves of its arrays, from the filled arrays it starts with. -/
theorem loop_ends (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole)
    (x2 : Vec F S1024x128 .bf16) (x3 : Vec F S16384x128 .bf16) (xs : Vec F S16384x256 .bf16) (X8 : BufTy.Contents (Elt F) arg8.view.ty)
    (hX : arg8.view.read (Elt F) X8 = xs) (f12 : BufTy.Contents (Elt F) arg12.view.ty)
    (P9 : BufTy.Contents (Elt F) arg9.view.ty) (P10 : BufTy.Contents (Elt F) arg10.view.ty) (P11 : BufTy.Contents (Elt F) arg11.view.ty)
    (e9 : P9 = arg9.view.writes (Elt F) arg9.view.junk [⟨Rect.unit (s := S2x1024x128) ![0, 0, 0] S2x1024x128.size inb_S2x1024x128_S2x1024x128_0_0_0, k0_pay68⟩])
    (e10 : P10 = arg10.view.writes (Elt F) arg10.view.junk [⟨Rect.unit (s := S2x1024x256) ![0, 0, 0] S2x1024x256.size inb_S2x1024x256_S2x1024x256_0_0_0, k0_pay69⟩])
    (e11 : P11 = arg11.view.writes (Elt F) arg11.view.junk
        [⟨Rect.unit (s := S2x1024x1024) ![1, 0, 0] S1x1024x1024.size inb_S2x1024x1024_S1x1024x1024_1_0_0, k0_pay75 (k0_pay73 x2) (kblk x3 0)⟩,
          ⟨Rect.unit (s := S2x1024x1024) ![0, 0, 0] S1x1024x1024.size inb_S2x1024x1024_S1x1024x1024_0_0_0, k0_pay74 x2 (kblk x3 0)⟩]) :
    (rdm arg9.view 0 (arg9.view.writes (Elt F) P9 (pb_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay72 x2) (k0_pay73 x2) 0#32 (harg5.unread x3) X8 P9 P10 P11 f12 (k0_t1_loop i).trips).1) = mAt (k0_pay72 x2) (kblk x3) m0 (2 * (k0_t1_loop i).trips)
        ∧ rda arg10.view 0 (arg10.view.writes (Elt F) P10 (pb_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay72 x2) (k0_pay73 x2) 0#32 (harg5.unread x3) X8 P9 P10 P11 f12 (k0_t1_loop i).trips).2.1) = aAt (k0_pay72 x2) (kblk x3) (vblk xs) m0 a0 (2 * (k0_t1_loop i).trips)
        ∧ rds arg11.view 0 (arg11.view.writes (Elt F) P11 (pb_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay72 x2) (k0_pay73 x2) 0#32 (harg5.unread x3) X8 P9 P10 P11 f12 (k0_t1_loop i).trips).2.2.1) = sc (k0_pay72 x2) (kblk x3 (2 * (k0_t1_loop i).trips)))
      ∧ (rdm arg9.view 1 (arg9.view.writes (Elt F) P9 (pb_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay72 x2) (k0_pay73 x2) 0#32 (harg5.unread x3) X8 P9 P10 P11 f12 (k0_t1_loop i).trips).1) = mAt (k0_pay73 x2) (kblk x3) m0 (2 * (k0_t1_loop i).trips)
        ∧ rda arg10.view 1 (arg10.view.writes (Elt F) P10 (pb_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay72 x2) (k0_pay73 x2) 0#32 (harg5.unread x3) X8 P9 P10 P11 f12 (k0_t1_loop i).trips).2.1) = aAt (k0_pay73 x2) (kblk x3) (vblk xs) m0 a0 (2 * (k0_t1_loop i).trips)
        ∧ rds arg11.view 1 (arg11.view.writes (Elt F) P11 (pb_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay72 x2) (k0_pay73 x2) 0#32 (harg5.unread x3) X8 P9 P10 P11 f12 (k0_t1_loop i).trips).2.2.1) = sc (k0_pay73 x2) (kblk x3 (2 * (k0_t1_loop i).trips))) := by
  subst e9 e10 e11
  constructor
  · refine after_trips0 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay72 x2) (k0_pay73 x2) 0#32 (harg5.unread x3) X8 _ _ _ _ (kblk x3) (vblk xs) m0 a0
      (fun k => ld_keys arg5 harg5 x3 _ _ (off1_one i k) _) (fun k => ld_keys arg5 harg5 x3 _ _ (off1_two i k) _)
      (fun k => ld_vals arg8 hX _ _ (off2_eq i k) _) (fun k => ld_vals arg8 hX _ _ (off3_eq i k) _)
      ?_ ?_ ?_ _ le_rfl
    · exact ld_fill _ _ _ (by decide) _ _ _
    · exact ld_fill _ _ _ (by decide) _ _ _
    · exact (readAt_writes_skip _ _ _ _ _ _ (by decide)).trans (readAt_writes_head _ _ _ _ _)
  · refine after_trips1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay72 x2) (k0_pay73 x2) 0#32 (harg5.unread x3) X8 _ _ _ _ (kblk x3) (vblk xs) m0 a0
      (fun k => ld_keys arg5 harg5 x3 _ _ (off1_one i k) _) (fun k => ld_keys arg5 harg5 x3 _ _ (off1_two i k) _)
      (fun k => ld_vals arg8 hX _ _ (off2_eq i k) _) (fun k => ld_vals arg8 hX _ _ (off3_eq i k) _)
      ?_ ?_ ?_ _ le_rfl
    · exact ld_fill _ _ _ (by decide) _ _ _
    · exact ld_fill _ _ _ (by decide) _ _ _
    · exact readAt_writes_head _ _ _ _ _

end Cert.KernelIdeal.Attn
end
-- ==== Proof.RunA.lean ====
module

public import proofs.«01_k».proof.Proof.Body

/-!
# The run of the body at the first query block of a head
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The run at the first query block of a head: the values beside ones are built into the first scratch, the loop over the key blocks before the diagonal makes no trip, and the diagonal block follows. -/
theorem run_A (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (hc0 : cond0_0 i) (hc1 : ¬cond0_1 i)
    (x0 : Vec F S4x64 .f32) (x1 : Vec F S1x128 .f32) (x2 : Vec F S1024x128 .bf16) (x3 : Vec F S16384x128 .bf16) (x4 : Vec F S16384x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outV i x0 x1 x2 x3 (vxOf x4)) ∗ owns (c : Thread nD τ) arg8 fullShare (vxOf x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12) K := by
  intro E K
  simp only [cc0_diff_attn_eq_skeleton]; unfold cc0_diff_attn_skel
  simp only [k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    have hev : 2 * (k0_t1_loop i).trips = (i 1).val := by
      have := mt (cond1_iff i).mpr hc1
      rw [trips1 i]; omega
    sl_unfold_run_names
    have t2 : Scf.trips (k0_t2_loop i).lb (k0_t2_loop i).ub (k0_t2_loop i).st = 0 := trips2 i
    have q := ld_whole arg4 harg4 x2 ![0, 0] (by decide) inb_S1024x128_S1024x128_0_0
    have kz := ld_keys arg5 harg5 x3 ![0, 0] 0 rfl inb_S16384x128_S1024x128_0_0
    have vz := ld_whole arg6 harg6 x4 ![0, 0] (by decide) inb_S16384x128_S16384x128_0_0
    simp only [t2, pb_k0_t2, List.nil_append, q, kz, vz]
    obtain ⟨⟨m₀, s₀, v₀⟩, m₁, s₁, v₁⟩ := loop_ends c i arg2 harg2 arg3 harg3 arg4 harg4 arg5 harg5 arg6 harg6 arg7 harg7 arg8 harg8 arg9 harg9 arg10 harg10 arg11 harg11 arg12 harg12
      x2 x3 (vxOf x4) (arg8.view.writes (Elt F) arg8.view.junk
      [⟨Rect.unit (s := S16384x256) ![0, 128] S16384x128.size inb_S16384x256_S16384x128_0_128, k0_pay67⟩,
        ⟨Rect.unit (s := S16384x256) ![0, 0] S16384x128.size inb_S16384x256_S16384x128_0_0, k0_pay66 x4⟩]) (read_vx arg8 _ x4) fs4 _ _ _ rfl rfl rfl
    rw [hev] at m₀ s₀ v₀ m₁ s₁ v₁
    refine (read_fill _ _ _ (by decide) _ _).trans (outV_of i x0 x1 x2 x3 _ ?_ ?_ ?_ ?_)
    · exact ld_whole arg2 harg2 x0 ![0, 0] (by decide) inb_S4x64_S4x64_0_0
    · exact ld_whole arg3 harg3 x1 ![0, 0] (by decide) inb_S1x128_S1x128_0_0
    · exact (View.readCov_skip _ _ _ _ _ (by decide)).trans ((View.readCov_cons_toLoadRect _ _ _ _).trans (aEnd_of _ _ _ _
        (ld_vals arg8 (read_vx arg8 _ x4) _ _ (k0_off9_eq i) _) ((cov_app _ _ _ _).trans v₀) ((cov_app _ _ _ _).trans m₀) ((cov_app _ _ _ _).trans s₀)))
    · exact (View.readCov_cons_toLoadRect _ _ _ _).trans ((e90 _ _ _ _).trans (aEnd_of _ _ _ _
        (ld_vals arg8 (read_vx arg8 _ x4) _ _ (k0_off9_eq i) _) ((cov_app _ _ _ _).trans v₁)
        ((View.readCov_skip _ _ _ _ _ (by decide)).trans ((cov_app _ _ _ _).trans m₁))
        ((View.readCov_skip _ _ _ _ _ (by decide)).trans ((cov_app _ _ _ _).trans s₁))))

  isplitl [HS0]
  · iexists _; isplitr; swap; · iexact HS0
    ipureintro
    sl_unfold_run_names
    rw [ld_whole arg6 harg6 x4 ![0, 0] (by decide) inb_S16384x128_S16384x128_0_0]
    exact read_vx arg8 _ x4

  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Attn
end
-- ==== Proof.RunB.lean ====
module

public import proofs.«01_k».proof.Proof.Body

/-!
# The run of the body at an odd query block
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The run at an odd query block: the doubled loop leaves one key block over, which the body takes by itself before the diagonal block. -/
theorem run_B (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (hc0 : ¬cond0_0 i) (hc1 : cond0_1 i)
    (x0 : Vec F S4x64 .f32) (x1 : Vec F S1x128 .f32) (x2 : Vec F S1024x128 .bf16) (x3 : Vec F S16384x128 .bf16) (x4 : Vec F S16384x128 .bf16) (xs0 : Vec F S16384x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outV i x0 x1 x2 x3 xs0) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12) K := by
  intro E K
  simp only [cc0_diff_attn_eq_skeleton]; unfold cc0_diff_attn_skel
  simp only [k0_part11_eq_skeleton, k0_part12_eq_skeleton, k0_part13_eq_skeleton, k0_part9_eq_skeleton, k0_part10_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    have hodd : 2 * (k0_t1_loop i).trips + 1 = (i 1).val := by
      have := (cond1_iff i).mp hc1
      rw [trips1 i]; omega
    sl_unfold_run_names
    have t2 : Scf.trips (k0_t2_loop i).lb (k0_t2_loop i).ub (k0_t2_loop i).st = 0 := trips2 i
    have q := ld_whole arg4 harg4 x2 ![0, 0] (by decide) inb_S1024x128_S1024x128_0_0
    have kz := ld_keys arg5 harg5 x3 ![0, 0] 0 rfl inb_S16384x128_S1024x128_0_0
    simp only [t2, pb_k0_t2, List.nil_append, q, kz, ↓ fold8, ↓ fold2]
    obtain ⟨⟨m₀, s₀, v₀⟩, m₁, s₁, v₁⟩ := loop_ends c i arg2 harg2 arg3 harg3 arg4 harg4 arg5 harg5 arg6 harg6 arg7 harg7 arg8 harg8 arg9 harg9 arg10 harg10 arg11 harg11 arg12 harg12
      x2 x3 xs0 (harg8.unread xs0) (harg8.read_unread xs0) fs4 _ _ _ rfl rfl rfl
    have hk8 := ld_keys arg5 harg5 x3 _ _ (k0_off8_eq i) (k0_off8_inb i hc1)
    have hv9 := ld_vals arg8 (harg8.read_unread xs0) _ _ (k0_off9_eq i) (k0_off9_inb i)
    have hv7 := ld_vals arg8 (harg8.read_unread xs0) _ (2 * (k0_t1_loop i).trips) ((off7_eq i hc1).trans (by rw [← hodd]; rfl)) (k0_off7_inb i hc1)
    have n₀ : mNew (sc (k0_pay72 x2) (kblk x3 (2 * (k0_t1_loop i).trips))) (mAt (k0_pay72 x2) (kblk x3) m0 (2 * (k0_t1_loop i).trips))
        = mAt (k0_pay72 x2) (kblk x3) m0 (i 1).val := by rw [← hodd]; rfl
    have n₁ : mNew (sc (k0_pay73 x2) (kblk x3 (2 * (k0_t1_loop i).trips))) (mAt (k0_pay73 x2) (kblk x3) m0 (2 * (k0_t1_loop i).trips))
        = mAt (k0_pay73 x2) (kblk x3) m0 (i 1).val := by rw [← hodd]; rfl
    have u₀ : aNew (vblk xs0 (2 * (k0_t1_loop i).trips)) (sc (k0_pay72 x2) (kblk x3 (2 * (k0_t1_loop i).trips)))
        (mAt (k0_pay72 x2) (kblk x3) m0 (2 * (k0_t1_loop i).trips)) (aAt (k0_pay72 x2) (kblk x3) (vblk xs0) m0 a0 (2 * (k0_t1_loop i).trips))
        = aAt (k0_pay72 x2) (kblk x3) (vblk xs0) m0 a0 (i 1).val := by rw [← hodd]; rfl
    have u₁ : aNew (vblk xs0 (2 * (k0_t1_loop i).trips)) (sc (k0_pay73 x2) (kblk x3 (2 * (k0_t1_loop i).trips)))
        (mAt (k0_pay73 x2) (kblk x3) m0 (2 * (k0_t1_loop i).trips)) (aAt (k0_pay73 x2) (kblk x3) (vblk xs0) m0 a0 (2 * (k0_t1_loop i).trips))
        = aAt (k0_pay73 x2) (kblk x3) (vblk xs0) m0 a0 (i 1).val := by rw [← hodd]; rfl
    refine (read_fill _ _ _ (by decide) _ _).trans (outV_of i x0 x1 x2 x3 _ ?_ ?_ ?_ ?_)
    · exact ld_whole arg2 harg2 x0 ![0, 0] (by decide) inb_S4x64_S4x64_0_0
    · exact ld_whole arg3 harg3 x1 ![0, 0] (by decide) inb_S1x128_S1x128_0_0
    · refine (View.readCov_skip _ _ _ _ _ (by decide)).trans ((View.readCov_cons_toLoadRect _ _ _ _).trans (aEnd_of _ _ _ _ hv9 ?_ ?_ ?_))
      · exact (View.readCov_skip _ _ _ _ _ (by decide)).trans ((View.readCov_cons_toLoadRect _ _ _ _).trans (congrArg (sc (k0_pay72 x2)) hk8))
      · exact (View.readCov_skip _ _ _ _ _ (by decide)).trans ((View.readCov_cons_toLoadRect _ _ _ _).trans
          ((mNew_of ((cov_app _ _ _ _).trans v₀) ((cov_app _ _ _ _).trans m₀)).trans n₀))
      · exact (View.readCov_skip _ _ _ _ _ (by decide)).trans ((View.readCov_cons_toLoadRect _ _ _ _).trans
          ((aNew_of hv7 ((cov_app _ _ _ _).trans v₀) ((cov_app _ _ _ _).trans m₀) ((cov_app _ _ _ _).trans s₀)).trans u₀))
    · refine (View.readCov_cons_toLoadRect _ _ _ _).trans ((e90 _ _ _ _).trans (aEnd_of _ _ _ _ hv9 ?_ ?_ ?_))
      · exact (View.readCov_cons_toLoadRect _ _ _ _).trans (congrArg (sc (k0_pay73 x2)) hk8)
      · exact (View.readCov_skip _ _ _ _ _ (by decide)).trans ((View.readCov_cons_toLoadRect _ _ _ _).trans
          ((mNew_of ((cov_app _ _ _ _).trans v₁) ((View.readCov_skip _ _ _ _ _ (by decide)).trans ((cov_app _ _ _ _).trans m₁))).trans n₁))
      · exact (View.readCov_skip _ _ _ _ _ (by decide)).trans ((View.readCov_cons_toLoadRect _ _ _ _).trans
          ((aNew_of hv7 ((cov_app _ _ _ _).trans v₁) ((View.readCov_skip _ _ _ _ _ (by decide)).trans ((cov_app _ _ _ _).trans m₁))
            ((View.readCov_skip _ _ _ _ _ (by decide)).trans ((cov_app _ _ _ _).trans s₁))).trans u₁))

  isplitl [HS0]
  · iexists _; isplitr; · ipureintro; exact harg8.read_unread _
    iexact HS0
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Attn
end
-- ==== Proof.RunC.lean ====
module

public import proofs.«01_k».proof.Proof.Body

/-!
# The run of the body at an even query block after the first
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The run at an even query block after the first: the doubled loop covers the key blocks before the diagonal. -/
theorem run_C (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S16384x256 .bf16) (harg8 : arg8.IsWhole) (arg9 : Memref sig .tc .vmem S2x1024x128 .f32) (harg9 : arg9.IsWhole) (arg10 : Memref sig .tc .vmem S2x1024x256 .f32) (harg10 : arg10.IsWhole) (arg11 : Memref sig .tc .vmem S2x1024x1024 .f32) (harg11 : arg11.IsWhole) (arg12 : Memref sig .tc .vmem S2x1024x1024 .f32) (harg12 : arg12.IsWhole) (hc0 : ¬cond0_0 i) (hc1 : ¬cond0_1 i)
    (x0 : Vec F S4x64 .f32) (x1 : Vec F S1x128 .f32) (x2 : Vec F S1024x128 .bf16) (x3 : Vec F S16384x128 .bf16) (x4 : Vec F S16384x128 .bf16) (xs0 : Vec F S16384x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outV i x0 x1 x2 x3 xs0) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12) K := by
  intro E K
  simp only [cc0_diff_attn_eq_skeleton]; unfold cc0_diff_attn_skel
  simp only [k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    have hev : 2 * (k0_t1_loop i).trips = (i 1).val := by
      have := mt (cond1_iff i).mpr hc1
      rw [trips1 i]; omega
    sl_unfold_run_names
    have t2 : Scf.trips (k0_t2_loop i).lb (k0_t2_loop i).ub (k0_t2_loop i).st = 0 := trips2 i
    have q := ld_whole arg4 harg4 x2 ![0, 0] (by decide) inb_S1024x128_S1024x128_0_0
    have kz := ld_keys arg5 harg5 x3 ![0, 0] 0 rfl inb_S16384x128_S1024x128_0_0
    simp only [t2, pb_k0_t2, List.nil_append, q, kz]
    obtain ⟨⟨m₀, s₀, v₀⟩, m₁, s₁, v₁⟩ := loop_ends c i arg2 harg2 arg3 harg3 arg4 harg4 arg5 harg5 arg6 harg6 arg7 harg7 arg8 harg8 arg9 harg9 arg10 harg10 arg11 harg11 arg12 harg12
      x2 x3 xs0 (harg8.unread xs0) (harg8.read_unread xs0) fs4 _ _ _ rfl rfl rfl
    rw [hev] at m₀ s₀ v₀ m₁ s₁ v₁
    refine (read_fill _ _ _ (by decide) _ _).trans (outV_of i x0 x1 x2 x3 _ ?_ ?_ ?_ ?_)
    · exact ld_whole arg2 harg2 x0 ![0, 0] (by decide) inb_S4x64_S4x64_0_0
    · exact ld_whole arg3 harg3 x1 ![0, 0] (by decide) inb_S1x128_S1x128_0_0
    · exact (View.readCov_skip _ _ _ _ _ (by decide)).trans ((View.readCov_cons_toLoadRect _ _ _ _).trans (aEnd_of _ _ _ _
        (ld_vals arg8 (harg8.read_unread xs0) _ _ (k0_off9_eq i) _) ((cov_app _ _ _ _).trans v₀) ((cov_app _ _ _ _).trans m₀) ((cov_app _ _ _ _).trans s₀)))
    · exact (View.readCov_cons_toLoadRect _ _ _ _).trans ((e90 _ _ _ _).trans (aEnd_of _ _ _ _
        (ld_vals arg8 (harg8.read_unread xs0) _ _ (k0_off9_eq i) _) ((cov_app _ _ _ _).trans v₁)
        ((View.readCov_skip _ _ _ _ _ (by decide)).trans ((cov_app _ _ _ _).trans m₁))
        ((View.readCov_skip _ _ _ _ _ (by decide)).trans ((cov_app _ _ _ _).trans s₁))))

  isplitl [HS0]
  · iexists _; isplitr; · ipureintro; exact harg8.read_unread _
    iexact HS0
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Attn
end
-- ==== Proof.Launch.lean ====
module

public import proofs.«01_k».proof.Proof.RunA
public import proofs.«01_k».proof.Proof.RunB
public import proofs.«01_k».proof.Proof.RunC
public import Idealize.ShloMosaic.Lib.Claim
public import Idealize.ShloMosaic.Lib.Pipeline.Value
public import Idealize.ShloMosaic.Lib.Pipeline.ValueKit

/-!
# The run of the whole launch

The state carried from point to point is the scratch holding the values beside ones: after a point it
holds the values of that point's head (`vxOf`), since a head's first point fills it and the others keep it.
With it the three runs of the body give the body's obligation at every point, and the launch ends with
the result at `G`, block by block what the points computed.
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The values beside ones of the head of point `t`. -/
def vxAt (c : Dev nD) (t : Fin cfg0.N) : Vec F S16384x256 .bf16 := vxOf (iblk m c 4 t)

/-- The block of the result point `t` leaves. -/
def outAt (c : Dev nD) (t : Fin cfg0.N) : Vec F S1024x128 .bf16 :=
  outV (grid0.coords t) (iblk m c 0 t) (iblk m c 1 t) (iblk m c 2 t) (iblk m c 3 t) (vxAt m c t)

/-- The head's values stay the same block from one point to the next of the same head. -/
theorem idx4_eq : ∀ t t' : Fin cfg0.N, t.val / 16 = t'.val / 16 → win0_4.index t = win0_4.index t' :=
  (by decide +kernel : ∀ t t' : Fin grid0.N, t.val / 16 = t'.val / 16 → win0_4.index t = win0_4.index t')

theorem vxAt_eq (c : Dev nD) (t t' : Fin cfg0.N) (h : t.val / 16 = t'.val / 16) : vxAt m c t = vxAt m c t' := by
  unfold vxAt
  refine congrArg vxOf (funext fun y => ?_)
  blk_ext [iblk, idx4_eq t t' h]

/-- What the region holds before position `n`: at the start every scratch at anything, afterwards the values beside
    ones of the last point's head, the other scratch at anything. -/
def held (c : Dev nD) : (n : ℕ) → n ≤ cfg0.N → sProp 𝕄
  | 0, _ => Pipeline.ΦA spec0 c
  | n + 1, hn => iprop(iprop(owns (c : Thread nD τ) scM0_0 fullShare (vxAt m c ⟨n, hn⟩) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

/-- After a point of the head of `t`, what is held names the values of the head of `t`. -/
theorem held_pos (c : Dev nD) (t : Fin cfg0.N) (h0 : ¬ t.val % 16 = 0) (h : t.val ≤ cfg0.N) :
    held m c t.val h = iprop(iprop(owns (c : Thread nD τ) scM0_0 fullShare (vxAt m c t) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  obtain ⟨n, hn⟩ := t
  cases n with
  | zero => exact absurd (Nat.zero_mod _) h0
  | succ n => rw [vxAt_eq m c ⟨n + 1, hn⟩ ⟨n, Nat.lt_of_succ_lt hn⟩ (by dsimp only at h0 ⊢; omega)]; rfl

/-- What is held can be forgotten. -/
theorem held_forget (c : Dev nD) (n : ℕ) (h : n ≤ cfg0.N) : held m c n h ⊢ Pipeline.ΦA spec0 c := by
  cases n with
  | zero => exact Idealize.SL.BI.Entails.refl _
  | succ n =>
    rw [PhiA0_eq]; unfold held
    iintro ⟨⟨HS0, HS1, HS2, HS3, HS4⟩, Hg⟩
    isplitl [HS0 HS1 HS2 HS3 HS4]
    · isplitl [HS0]; · iexists _; iexact HS0
      isplitl [HS1]; · iexact HS1
      isplitl [HS2]; · iexact HS2
      isplitl [HS3]; · iexact HS3
      iexact HS4
    iexact Hg

/-- The data of the launch: each input's buffer at its block, the result's at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body's triple at the first query block of a head. -/
theorem triple_A (c : Dev nD) (t : Fin cfg0.N) (h0 : t.val % 16 = 0) :
    given m c t ⊢ wp frame (wpE (defs₀ (F := F)) Variants.none c none) Set.univ (bodyAt0 t) (fun _ => returned m c t) := by
  unfold given returned bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = held m c (t.val + 1) t.isLt from rfl, held_castSucc]
  refine BIBase.Entails.trans (sep_mono_left (held_forget m c _ _)) ?_
  rw [PhiA0_eq]; unfold held outAt vxAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (run_A c (grid0.coords t) _ _ _ _ _ _ _ _ _ _ _ _ _ _ _ _ _ _ _ _ _ _ ((hcond0_0 t).mpr h0) (fun h => absurd ((hcond0_1 t).mp h) (by omega)) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- The body's triple at an odd query block. -/
theorem triple_B (c : Dev nD) (t : Fin cfg0.N) (h0 : ¬t.val % 16 = 0) (h1 : t.val % 2 = 1) :
    given m c t ⊢ wp frame (wpE (defs₀ (F := F)) Variants.none c none) Set.univ (bodyAt0 t) (fun _ => returned m c t) := by
  unfold given returned bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = held m c (t.val + 1) t.isLt from rfl, held_castSucc]
  rw [held_pos m c t h0]; unfold held outAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (run_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- The body's triple at an even query block after the first. -/
theorem triple_C (c : Dev nD) (t : Fin cfg0.N) (h0 : ¬t.val % 16 = 0) (h1 : ¬t.val % 2 = 1) :
    given m c t ⊢ wp frame (wpE (defs₀ (F := F)) Variants.none c none) Set.univ (bodyAt0 t) (fun _ => returned m c t) := by
  unfold given returned bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = held m c (t.val + 1) t.isLt from rfl, held_castSucc]
  rw [held_pos m c t h0]; unfold held outAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (run_C c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

/-- The row of the body's table at point `t` is the body itself. -/
theorem row_eq (t : Fin cfg0.N) :
    defs₀ (F := F) .tc cfg0.body (cfg0.bodyArgs t (cfg0.slots t)) = bodyAt0 t := by
  unfold defs₀; rw [Defs.onTc_tc]

/-- The body's obligation, at every point. -/
theorem obligation (c : Dev nD) : BodyObligation (dats (F := F) m 0 c) (defs₀ (F := F)) Variants.none () Set.univ := fun t => by
  rw [bigSep_W0, bigSep_W0, row_eq]
  refine triple_restated (Q := fun _ => returned m c t) ?_ rfl .rfl fun _ => .rfl
  by_cases h0 : t.val % 16 = 0
  · exact triple_A m c t h0
  · by_cases h1 : t.val % 2 = 1
    · exact triple_B m c t h0 h1
    · exact triple_C m c t h0 h1

theorem held_first (c : Dev nD) : Pipeline.ΦA spec0 c ⊢ (dats m 0 c).Φ 0 :=
  Idealize.SL.BI.Entails.refl _

theorem held_last (c : Dev nD) : (dats m 0 c).Φ (Fin.last cfg0.N) ⊢ Pipeline.ΦA spec0 c :=
  held_forget m c (Fin.last cfg0.N).val (Nat.le_of_lt_succ (Fin.last cfg0.N).isLt)

set_option backward.isDefEq.respectTransparency.types false in
/-- The launch: every array as the data say, every counter back at zero. -/
theorem launched : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := held_first m) (hout := held_last m)

theorem launched_post : θ_run defs (onTc (τ := τ) (main (F := F))) (s₀ m ρ) (Pipeline.FramePost cfgs (dats m) 0 (V m)) :=
  (θ_run defs _ _).mono (fun _ h => h.1) (launched m ρ)

/-- The frame: the arguments are unchanged and every counter is back at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  θ_run_and (frame_of m ρ (dats m) (A_eq m) (launched_post m ρ)) ((θ_run defs _ _).mono (fun _ h => h.2) (launched m ρ))

/-! ## The result after the launch -/

/-- Two points write two blocks. -/
theorem facts_out : ∀ t : Fin cfg0.N, win0_5.index t (0 : Fin 2) = t.val % 16 ∧ win0_5.index t (1 : Fin 2) = t.val / 16 :=
  (by decide +kernel : ∀ t : Fin grid0.N, win0_5.index t (0 : Fin 2) = t.val % 16 ∧ win0_5.index t (1 : Fin 2) = t.val / 16)

theorem flushes : ∀ t : Fin cfg0.N, (cfg0.win 5).flush t = true :=
  (by decide +kernel : ∀ t : Fin grid0.N, win0_5.flush t = true)

/-- The point that computes row `i 0` of column `i 1` of the result. -/
def ptOf (i : S16384x1024.Idx) : Fin cfg0.N :=
  ⟨(i 0).val / 1024 + 16 * ((i 1).val / 128), lt_of_lt_of_eq (by
    have h0 : (i 0).val < 16384 := (i 0).isLt
    have h1 : (i 1).val < 1024 := (i 1).isLt
    omega) N_0.symm⟩

/-- Its place in that point's block. -/
def locOf (i : S16384x1024.Idx) : S1024x128.Idx := fun a => match a with
  | ⟨0, _⟩ => ⟨(i 0).val % 1024, Nat.mod_lt _ (by decide)⟩
  | ⟨1, _⟩ => ⟨(i 1).val % 128, Nat.mod_lt _ (by decide)⟩

/-- The result after the launch. -/
def G (c : Dev nD) : Buf (Elt F) ((c : Thread nD τ).loc main_v6) := fun i => outAt m c (ptOf i) (locOf i)

theorem flushed_eq (c : Dev nD) (t : Fin cfg0.N) (hf : (cfg0.win 5).flush t = true) :
    (dats m 0 c).flushed 5 t = ((cfg0.win 5).blk t).view.read (Elt F) (G m c) := by
  show (cfg0.win 5).cut (grid0.coords t) ((dats m 0 c).after 5 t) = _
  rw [after_5]
  obtain ⟨e0, e1⟩ := facts_out t
  funext y
  have ht : t.val < 128 := lt_of_lt_of_eq t.isLt N_0
  have hy0 : (y 0).val < 1024 := (y 0).isLt
  have hy1 : (y 1).val < 128 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 128 + 1 * (y 1).val := rfl
  have hp : ptOf (((cfg0.win 5).blk t).view.emb y) = t := by
    apply Fin.ext
    show (((cfg0.win 5).blk t).view.emb y 0).val / 1024 + 16 * ((((cfg0.win 5).blk t).view.emb y 1).val / 128) = _
    rw [hb0, hb1]; omega
  have hl : locOf (((cfg0.win 5).blk t).view.emb y) = (cfg0.win 5).xinj (grid0.coords t) y := by
    funext a; apply Fin.ext
    match a with
    | ⟨0, _⟩ => show (((cfg0.win 5).blk t).view.emb y 0).val % 1024 = (y 0).val; rw [hb0]; omega
    | ⟨1, _⟩ => show (((cfg0.win 5).blk t).view.emb y 1).val % 128 = (y 1).val; rw [hb1]; omega
  show outAt m c t ((cfg0.win 5).xinj (grid0.coords t) y) = outAt m c (ptOf (((cfg0.win 5).blk t).view.emb y)) (locOf (((cfg0.win 5).blk t).view.emb y))
  rw [hp, hl]

/-- Every place of the result is in the block of its point. -/
theorem covered (i : S16384x1024.Idx) : ∃ t : Fin cfg0.N, (cfg0.win 5).flush t = true ∧ i ∈ ((cfg0.win 5).blk t).view.set := by
  refine ⟨ptOf i, flushes _, ?_⟩
  show i ∈ ((View.whole main_v6).slice (win0_5.rect (ptOf i))).set
  rw [View.set_slice_whole, Rect.mem_set_unit]
  obtain ⟨e0, e1⟩ := facts_out (ptOf i)
  have hv : (ptOf i).val = (i 0).val / 1024 + 16 * ((i 1).val / 128) := rfl
  have h0 : (i 0).val < 16384 := (i 0).isLt
  have h1 : (i 1).val < 1024 := (i 1).isLt
  intro a
  match a with
  | ⟨0, _⟩ => show win0_5.index (ptOf i) (0 : Fin 2) * 1024 ≤ (i 0).val ∧ (i 0).val < win0_5.index (ptOf i) (0 : Fin 2) * 1024 + 1024; omega
  | ⟨1, _⟩ => show win0_5.index (ptOf i) (1 : Fin 2) * 128 ≤ (i 1).val ∧ (i 1).val < win0_5.index (ptOf i) (1 : Fin 2) * 128 + 128; omega

theorem final (c : Dev nD) : (dats m 0 c).arrAt 5 cfg0.N = G m c :=
  (dats m 0 c).arrAt_eq_of_cover 5 _ (fun t hf => flushed_eq m c t hf) covered

/-- The run with the result named, the arguments unchanged. -/
theorem run : θ_run defs (onTc (τ := τ) (main (F := F))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).trans (final m c), h.2 c⟩)
    (θ_run_and ((θ_run defs _ _).mono (fun r (h : Pipeline.FramePost cfgs (dats m) 0 (V m) r) (c : Dev nD) => (h c).1 5) (launched_post m ρ))
      (frame_of m ρ (dats m) (A_eq m) (launched_post m ρ)))

end Cert.KernelIdeal.Attn
end
-- ==== Proof.Online.lean ====
/-
  The arithmetic of one row of causal attention, over the extended reals.

  The kernel keeps, for a query row, a running maximum `M` and a running sum `a` of weighted values, in base two, and
  folds one block of keys into them at a time. `Row` says what the pair stands for after the first `n` keys: either no
  key has been seen, or the running maximum is SOME real `μ` and each running sum is `∑ 2 ^ (s k - μ) * v k` over the
  keys seen. Which real `μ` is does not matter: it cancels in the quotient that ends the row (`Row.quot`). The
  reference takes the softmax of the whole masked row in base e and multiplies afterwards; `softmax_row` reads its
  weights, and `mix` puts the two quotients of the differential attention together.
-/
module

public import Idealize.ShloMosaic.PureOps.Ideal
public import Idealize.ShloMosaic.PureOps.Ideal.Laws
public import Mathlib.Analysis.SpecialFunctions.Pow.Real

@[expose] public section

noncomputable section

namespace Cert.Attn

open Idealize.ShloMosaic

/-- A sum of reals read in the extended reals. -/
theorem coe_sum {ι : Type} (S : Finset ι) (f : ι → ℝ) : ((∑ k ∈ S, f k : ℝ) : EReal) = ∑ k ∈ S, (f k : EReal) := by
  classical
  induction S using Finset.induction_on with
  | empty => simp
  | insert i S hi ih => rw [Finset.sum_insert hi, Finset.sum_insert hi, EReal.coe_add, ih]

/-- The maximum of a nonempty masked block is a real number. -/
theorem fold_max_real {n : ℕ} (t : Fin n → EReal) (s : Fin n → ℝ) (C : Fin n → Prop) [DecidablePred C]
    (ht : ∀ c, t c = if C c then (s c : EReal) else ⊥) (c₀ : Fin n) (h₀ : C c₀) :
    ∃ r : ℝ, Finset.univ.fold max (⊥ : EReal) t = r := by
  have hne_bot : Finset.univ.fold max (⊥ : EReal) t ≠ ⊥ := by
    intro h
    have := (Finset.le_fold_max (b := (⊥ : EReal)) (f := t) (s := Finset.univ) (t c₀)).mpr
      (.inr ⟨c₀, Finset.mem_univ _, le_rfl⟩)
    rw [h, ht, if_pos h₀] at this
    exact absurd (le_bot_iff.mp this) (EReal.coe_ne_bot _)
  have hne_top : Finset.univ.fold max (⊥ : EReal) t ≠ ⊤ := by
    have : Finset.univ.fold max (⊥ : EReal) t < ⊤ := by
      rw [Finset.fold_max_lt]
      refine ⟨bot_lt_top, fun c _ => ?_⟩
      rw [ht]; split
      · exact EReal.coe_lt_top _
      · exact bot_lt_top
    exact this.ne
  exact ⟨_, (EReal.coe_toReal hne_top hne_bot).symm⟩

/-- What a row's running maximum `M` and running sums `a` stand for after the first `n` keys. -/
def Row {L : Type} (n : ℕ) (s : ℕ → ℝ) (v : ℕ → L → ℝ) (M : EReal) (a : L → EReal) : Prop :=
  (n = 0 ∧ M = ⊥ ∧ ∀ l, a l = 0) ∨
    ∃ μ : ℝ, M = μ ∧ ∀ l, a l = ((∑ k ∈ Finset.range n, (2 : ℝ) ^ (s k - μ) * v k l : ℝ) : EReal)

theorem Row.zero {L : Type} (s : ℕ → ℝ) (v : ℕ → L → ℝ) (M : EReal) (a : L → EReal) (hM : M = ⊥) (ha : ∀ l, a l = 0) :
    Row 0 s v M a := .inl ⟨rfl, hM, ha⟩

theorem sum_fin_lt {n w : ℕ} (hw : w ≤ n) (f : ℕ → ℝ) :
    (∑ c : Fin n, if (c : ℕ) < w then f c else 0) = ∑ k ∈ Finset.range w, f k := by
  rw [Fin.sum_univ_eq_sum_range (fun c => if c < w then f c else 0) n, ← Finset.sum_filter]
  congr 1
  ext k
  simp only [Finset.mem_filter, Finset.mem_range]
  omega

/-- Folding in one block of keys, of which the first `w` count: the new maximum is that of the old one and the block's
    scores, the old sums are rescaled to it, and the block's weighted values are added. -/
theorem Row.step {L : Type} {n : ℕ} {s : ℕ → ℝ} {v : ℕ → L → ℝ} {M : EReal} {a : L → EReal} (h : Row n s v M a)
    {B : ℕ} (w : ℕ) (hw0 : 0 < w) (hw : w ≤ B) (t : Fin B → EReal)
    (ht : ∀ c, t c = if (c : ℕ) < w then (s (n + c) : EReal) else ⊥)
    (M' : EReal) (hM' : M' = max M (Finset.univ.fold max ⊥ t)) (a' : L → EReal)
    (ha' : ∀ l, a' l = Ideal.exp2 (M - M') * a l + ∑ c : Fin B, Ideal.exp2 (t c - M') * (v (n + c) l : EReal)) :
    Row (n + w) s v M' a' := by
  obtain ⟨r, hr⟩ := fold_max_real t (fun c => s (n + c)) (fun c => (c : ℕ) < w) ht ⟨0, by omega⟩ hw0
  have hp : ∀ μ' : ℝ, ∀ l, ∑ c : Fin B, Ideal.exp2 (t c - (μ' : EReal)) * (v (n + c) l : EReal)
      = ((∑ k ∈ Finset.range w, (2 : ℝ) ^ (s (n + k) - μ') * v (n + k) l : ℝ) : EReal) := by
    intro μ' l
    rw [← sum_fin_lt hw (fun k => (2 : ℝ) ^ (s (n + k) - μ') * v (n + k) l), coe_sum]
    refine Finset.sum_congr rfl fun c _ => ?_
    rw [ht]
    split
    · rw [← EReal.coe_sub, Ideal.exp2_coe, ← EReal.coe_mul]; rfl
    · rw [EReal.bot_sub, Ideal.exp2_bot, zero_mul, EReal.coe_zero]
  rw [hr] at hM'
  rcases h with ⟨rfl, rfl, ha⟩ | ⟨μ, rfl, ha⟩
  · right
    refine ⟨r, by rw [hM', max_eq_right bot_le], fun l => ?_⟩
    have hM'' : M' = (r : EReal) := by rw [hM', max_eq_right bot_le]
    rw [ha' l, hM'', hp, ha, mul_zero, zero_add]
    simp only [zero_add]
  · right
    have hM'' : M' = ((max μ r : ℝ) : EReal) := by rw [hM']; exact (EReal.coe_strictMono.monotone.map_max (a := μ) (b := r)).symm
    refine ⟨max μ r, hM'', fun l => ?_⟩
    rw [ha' l, hM'', hp, ha, ← EReal.coe_sub, Ideal.exp2_coe, ← EReal.coe_mul, ← EReal.coe_add, Finset.sum_range_add,
      Finset.mul_sum]
    congr 2
    refine Finset.sum_congr rfl fun k _ => ?_
    rw [← mul_assoc]
    congr 1
    show (2 : ℝ) ^ (μ - max μ r) * (2 : ℝ) ^ (s k - μ) = _
    rw [← Real.rpow_add (by norm_num)]
    congr 1
    ring

/-- The quotient that ends a row: the running sums of the values over those of ones, with `s` the base-two scores of
    the base-e scores `u`. -/
theorem Row.quot {L : Type} {n : ℕ} {s : ℕ → ℝ} {v : ℕ → L → ℝ} {M : EReal} {a : L → EReal} (h : Row n s v M a)
    (hn : 0 < n) (u : ℕ → ℝ) (hu : ∀ k, s k = u k * (Real.log 2)⁻¹) (l l₁ : L) (h1 : ∀ k, v k l₁ = 1) :
    Ideal.div (a l) (a l₁)
      = (((∑ k ∈ Finset.range n, Real.exp (u k) * v k l) / (∑ k ∈ Finset.range n, Real.exp (u k)) : ℝ) : EReal) := by
  rcases h with ⟨rfl, _, _⟩ | ⟨μ, _, ha⟩
  · omega
  have h2 : ∀ k, (2 : ℝ) ^ (s k - μ) = Real.exp (u k) * (2 : ℝ) ^ (-μ) := by
    intro k
    rw [sub_eq_add_neg, Real.rpow_add (by norm_num), Real.rpow_def_of_pos (by norm_num : (0:ℝ) < 2) (s k), hu]
    congr 2
    have : Real.log 2 ≠ 0 := (Real.log_pos (by norm_num)).ne'
    field_simp
  have hpos : (0 : ℝ) < (2 : ℝ) ^ (-μ) := Real.rpow_pos_of_pos (by norm_num) _
  have hsum : 0 < ∑ k ∈ Finset.range n, Real.exp (u k) :=
    Finset.sum_pos (fun k _ => Real.exp_pos _) ⟨0, Finset.mem_range.mpr hn⟩
  have e : ∀ l, a l = (((∑ k ∈ Finset.range n, Real.exp (u k) * v k l) * (2 : ℝ) ^ (-μ) : ℝ) : EReal) := by
    intro l
    rw [ha, Finset.sum_mul]
    congr 1
    refine Finset.sum_congr rfl fun k _ => ?_
    rw [h2]; ring
  have e1 : a l₁ = (((∑ k ∈ Finset.range n, Real.exp (u k)) * (2 : ℝ) ^ (-μ) : ℝ) : EReal) := by
    rw [e]; simp only [h1, mul_one]
  have hne : (((∑ k ∈ Finset.range n, Real.exp (u k)) * (2 : ℝ) ^ (-μ) : ℝ) : EReal) ≠ 0 := by
    rw [← EReal.coe_zero, Ne, EReal.coe_eq_coe_iff]; positivity
  rw [e l, e1, Ideal.div, if_neg hne, ← EReal.coe_inv, ← EReal.coe_mul]
  congr 1
  field_simp

/-- The reference's softmax weights of a row whose first `n` keys count: `exp (u k) / ∑ exp (u j)` on those, zero on
    the others. -/
theorem softmax_row {N n : ℕ} (hn : 0 < n) (hN : n ≤ N) (u : ℕ → ℝ) (t : Fin N → EReal)
    (ht : ∀ k, t k = if (k : ℕ) < n then (u k : EReal) else ⊥) (M : EReal)
    (hM : M = Finset.univ.fold max ⊥ t) (k : Fin N) :
    Ideal.div (Ideal.exp (t k - M)) (∑ j, Ideal.exp (t j - M))
      = ((if (k : ℕ) < n then Real.exp (u k) / (∑ j ∈ Finset.range n, Real.exp (u j)) else 0 : ℝ) : EReal) := by
  obtain ⟨r, hr⟩ := fold_max_real t (fun c => u c) (fun c => (c : ℕ) < n) ht ⟨0, by omega⟩ hn
  rw [hr] at hM
  have he : ∀ j, Ideal.exp (t j - M) = ((if (j : ℕ) < n then Real.exp (u j) * Real.exp (-r) else 0 : ℝ) : EReal) := by
    intro j
    rw [ht, hM]
    split
    · rw [← EReal.coe_sub, Ideal.exp_coe, sub_eq_add_neg, Real.exp_add]
    · rw [EReal.bot_sub, Ideal.exp_bot, EReal.coe_zero]
  have hs : ∑ j, Ideal.exp (t j - M) = (((∑ j ∈ Finset.range n, Real.exp (u j)) * Real.exp (-r) : ℝ) : EReal) := by
    rw [Finset.sum_congr rfl fun j _ => he j, ← coe_sum, sum_fin_lt hN (fun j => Real.exp (u j) * Real.exp (-r)),
      Finset.sum_mul]
  have hsum : 0 < ∑ k ∈ Finset.range n, Real.exp (u k) :=
    Finset.sum_pos (fun k _ => Real.exp_pos _) ⟨0, Finset.mem_range.mpr hn⟩
  have hr0 := Real.exp_pos (-r)
  have hne : (((∑ k ∈ Finset.range n, Real.exp (u k)) * Real.exp (-r) : ℝ) : EReal) ≠ 0 := by
    rw [← EReal.coe_zero, Ne, EReal.coe_eq_coe_iff]; positivity
  rw [hs, he, Ideal.div, if_neg hne, ← EReal.coe_inv, ← EReal.coe_mul]
  congr 1
  split
  · field_simp
  · rw [zero_mul]

/-- The differential attention of one row at one value column: the difference of the two quotients is the sum of the
    values under the difference of the two rows of softmax weights. -/
theorem mix {N n : ℕ} (hN : n ≤ N) (u₀ u₁ v : ℕ → ℝ) (lam : ℝ) (p₀ p₁ : Fin N → EReal)
    (h₀ : ∀ k : Fin N, p₀ k = ((if (k : ℕ) < n then Real.exp (u₀ k) / (∑ j ∈ Finset.range n, Real.exp (u₀ j)) else 0 : ℝ) : EReal))
    (h₁ : ∀ k : Fin N, p₁ k = ((if (k : ℕ) < n then Real.exp (u₁ k) / (∑ j ∈ Finset.range n, Real.exp (u₁ j)) else 0 : ℝ) : EReal)) :
    (((∑ k ∈ Finset.range n, Real.exp (u₀ k) * v k) / (∑ k ∈ Finset.range n, Real.exp (u₀ k)) : ℝ) : EReal)
        - (lam : EReal) * (((∑ k ∈ Finset.range n, Real.exp (u₁ k) * v k) / (∑ k ∈ Finset.range n, Real.exp (u₁ k)) : ℝ) : EReal)
      = ∑ k : Fin N, (p₀ k - (lam : EReal) * p₁ k) * (v k : EReal) := by
  have e : ∀ k : Fin N, (p₀ k - (lam : EReal) * p₁ k) * (v k : EReal)
      = ((if (k : ℕ) < n then (Real.exp (u₀ k) / (∑ j ∈ Finset.range n, Real.exp (u₀ j))
          - lam * (Real.exp (u₁ k) / (∑ j ∈ Finset.range n, Real.exp (u₁ j)))) * v k else 0 : ℝ) : EReal) := by
    intro k
    rw [h₀, h₁, ← EReal.coe_mul, ← EReal.coe_sub, ← EReal.coe_mul]
    congr 1
    split
    · rfl
    · ring
  rw [Finset.sum_congr rfl fun k _ => e k, ← coe_sum,
    sum_fin_lt hN (fun k => (Real.exp (u₀ k) / (∑ j ∈ Finset.range n, Real.exp (u₀ j))
          - lam * (Real.exp (u₁ k) / (∑ j ∈ Finset.range n, Real.exp (u₁ j)))) * v k),
    ← EReal.coe_mul, ← EReal.coe_sub]
  congr 1
  rw [Finset.sum_div, Finset.sum_div, Finset.mul_sum, ← Finset.sum_sub_distrib]
  refine Finset.sum_congr rfl fun k _ => ?_
  ring

end Cert.Attn

end
-- ==== Proof.Norm.lean ====
/-
  THE LAST STEPS OF THE HEAD, shared by both sides: the weight λ from its four vectors, and the row's normalisation
  by its root mean square. Both programs do these in the same order, so they are only named here.
-/
module

public import Idealize.ShloMosaic.PureOps.Ideal

@[expose] public section

set_option backward.proofsInPublic true

noncomputable section

namespace Cert.Attn

open Idealize.ShloMosaic

/-- The weight of the second softmax: `exp ⟨a, b⟩ − exp ⟨c, d⟩ + 0.2`. -/
def weight (a b c d : Fin 64 → EReal) : EReal :=
  Ideal.exp (∑ x, a x * b x) - Ideal.exp (∑ x, c x * d x) + Ideal.ofBits .f32 0x3E4CCCCD#32

/-- Lane `l` of a row over its root mean square, times the gain `g` and 0.8. -/
def normed (o : Fin 128 → EReal) (g : EReal) (l : Fin 128) : EReal :=
  o l * Ideal.rsqrt (Ideal.div (∑ x, o x * o x) (Ideal.ofBits .f32 0x43000000#32) + Ideal.ofBits .f32 0x3727C5AC#32) * g
    * Ideal.ofBits .f32 0x3F4CCCCD#32

/-- The score of a query `Q` with key `k` in half `h`, over eight. -/
def score (Q : Fin 128 → ℝ) (K : ℕ → Fin 128 → ℝ) (h : ℕ) (hh : h < 2) (k : ℕ) : ℝ :=
  (∑ d : Fin 64, Q ⟨64 * h + d.val, by omega⟩ * K k ⟨64 * h + d.val, by omega⟩) * 8⁻¹

/-- The mix of the values `v` by a softmax of the scores `u` over the first `n` keys. -/
def quot (u : ℕ → ℝ) (v : ℕ → ℝ) (n : ℕ) : ℝ :=
  (∑ k ∈ Finset.range n, Real.exp (u k) * v k) / (∑ k ∈ Finset.range n, Real.exp (u k))

/-- The pattern of minus infinity. -/
theorem ofBits_neg_inf : Ideal.ofBits .f32 0xFF800000#32 = ⊥ := by
  simp [Ideal.ofBits, Ideal.ieee]

/-- The pattern of one eighth. -/
theorem ofBits_eighth : Ideal.ofBits .f32 0x3E000000#32 = (((8 : ℝ)⁻¹ : ℝ) : EReal) := by
  simp [Ideal.ofBits, Ideal.ieee, -EReal.coe_mul]; norm_num

/-- The weight is real when its vectors are. -/
theorem weight_real (a b c d : Fin 64 → EReal) (a' b' c' d' : Fin 64 → ℝ) (ha : ∀ x, a x = a' x) (hb : ∀ x, b x = b' x)
    (hc : ∀ x, c x = c' x) (hd : ∀ x, d x = d' x) : ∃ w : ℝ, weight a b c d = w := by
  have hs : ∀ f g : Fin 64 → ℝ, ∑ x, (f x : EReal) * (g x : EReal) = ((∑ x, f x * g x : ℝ) : EReal) := by
    intro f g
    push_cast
    rfl
  have hk : ∃ k : ℝ, Ideal.ofBits .f32 0x3E4CCCCD#32 = k :=
    ⟨13421773 * (2 : ℝ) ^ (-26 : ℤ), by simp [Ideal.ofBits, Ideal.ieee, -EReal.coe_mul]⟩
  obtain ⟨k, hk⟩ := hk
  unfold weight
  simp only [ha, hb, hc, hd, hk, hs, Ideal.exp_coe]
  exact ⟨_, rfl⟩

end Cert.Attn
end
-- ==== Proof.Points.lean ====
/-
  THE KERNEL'S STEPS AT ONE ROW, over the extended reals: a score as a sum over lanes, the running maximum and the
  running sums after one more block of keys (the block before the diagonal, and the masked one on it), the two halves
  of the scaled queries, and the head's last steps.
-/
module

public import proofs.«01_k».proof.Proof.Norm
public import proofs.«01_k».proof.Proof.Body
public import Idealize.ShloMosaic.Lib.Pointwise
public import Idealize.ShloMosaic.Lib.IdealHost
public import Idealize.ShloMosaic.Lib.WordCmp

@[expose] public section

set_option backward.proofsInPublic true
set_option maxRecDepth 16384

noncomputable section

namespace Cert.KernelIdeal.Attn

open Cert.KernelIdeal Cert.KernelIdeal.Gen Cert.Attn
open Idealize.ShloMosaic Idealize.ShloMosaic.TcCoe Idealize.ShloMosaic.Tactic

/-- The greatest entry of a row of scores. -/
def rowMax (s : Fin 1024 → EReal) : EReal := Finset.univ.fold max ⊥ s

/-- One score. -/
theorem sc_apply (q kb : FVec Ideal S1024x128 .bf16) (r c : Fin 1024) :
    sc (F := Ideal) q kb (ix3 0 r c) = ∑ d : Fin 128, q (ix2 r d) * kb (ix2 c d) := by
  pointwise [sc, k0_pay1]

/-- The maximum after a block. -/
theorem mNew_apply (s : FVec Ideal S1x1024x1024 .f32) (m : FVec Ideal S1x1024x128 .f32) (r : Fin 1024) (l : Fin 128) :
    mNew (F := Ideal) s m (ix3 0 r l) = max (m (ix3 0 r l)) (rowMax fun c => s (ix3 0 r c)) := by
  pointwise [mNew, k0_pay9, k0_pay5, k0_pay4, k0_pay3]
  rw [ofBits_neg_inf]
  rfl

/-- The sums after a block. -/
theorem aNew_apply (vx : FVec Ideal S1024x256 .bf16) (s : FVec Ideal S1x1024x1024 .f32) (m : FVec Ideal S1x1024x128 .f32)
    (a : FVec Ideal S1x1024x256 .f32) (r : Fin 1024) (l : Fin 256) (M : EReal) (hM : ∀ l, m (ix3 0 r l) = M) :
    aNew (F := Ideal) vx s m a (ix3 0 r l)
      = Ideal.exp2 (M - max M (rowMax fun c => s (ix3 0 r c))) * a (ix3 0 r l)
        + ∑ c : Fin 1024, Ideal.exp2 (s (ix3 0 r c) - max M (rowMax fun c => s (ix3 0 r c))) * vx (ix2 c l) := by
  pointwise [aNew, k0_pay8, k0_pay6, k0_pay7, k0_pay5, k0_pay4, k0_pay3]
  simp only [hM, dite_eq_ite, ite_self, ofBits_neg_inf]
  rfl

/-- A masked score: minus infinity for a key after the query. -/
theorem mask_apply (s : FVec Ideal S1x1024x1024 .f32) (r c : Fin 1024) :
    k0_pay82 (F := Ideal) s (ix2 r c) = if c.val < r.val + 1 then s (ix3 0 r c) else ⊥ := by
  pointwise [k0_pay82, k0_pay81]
  rw [WordCmp.cmpi_sle_ofNat (by have := c.isLt; norm_num; omega) (by have := r.isLt; norm_num; omega), ofBits_neg_inf]
  by_cases h : c.val < r.val + 1
  · rw [if_pos h, decide_eq_true (by omega)]; rfl
  · rw [if_neg h, decide_eq_false (by omega)]; rfl

/-- The sums after the masked block. -/
theorem diag_apply (vx : FVec Ideal S1024x256 .bf16) (s : FVec Ideal S1x1024x1024 .f32) (m : FVec Ideal S1x1024x128 .f32)
    (a : FVec Ideal S1x1024x256 .f32) (r : Fin 1024) (l : Fin 256) (M : EReal) (hM : ∀ l, m (ix3 0 r l) = M) :
    k0_pay85 (F := Ideal) vx s m a (ix3 0 r l)
      = Ideal.exp2 (M - max M (rowMax fun c => k0_pay82 (F := Ideal) s (ix2 r c))) * a (ix3 0 r l)
        + ∑ c : Fin 1024, Ideal.exp2 (k0_pay82 (F := Ideal) s (ix2 r c) - max M (rowMax fun c => k0_pay82 (F := Ideal) s (ix2 r c))) * vx (ix2 c l) := by
  pointwise [k0_pay85, k0_pay84, k0_pay83]
  simp only [hM, dite_eq_ite, ite_self, ofBits_neg_inf]
  rfl

/-- The queries of the first half, scaled; zeros in the other lanes. -/
theorem half0_apply (x : FVec Ideal S1024x128 .bf16) (r : Fin 1024) (d : Fin 128) :
    k0_pay72 (F := Ideal) x (ix2 r d) = if d.val < 64 then x (ix2 r d) * (((Real.log 2)⁻¹ * 8⁻¹ : ℝ) : EReal) else 0 := by
  pointwise [k0_pay72, k0_pay70, k0_pay71]
  rw [WordCmp.cmpi_slt_ofNat (by have := d.isLt; norm_num; omega) (by norm_num)]
  by_cases h : d.val < 64
  · rw [if_pos h, decide_eq_true h]; rfl
  · rw [if_neg h, decide_eq_false h]; rfl

/-- The queries of the second half, scaled; zeros in the other lanes. -/
theorem half1_apply (x : FVec Ideal S1024x128 .bf16) (r : Fin 1024) (d : Fin 128) :
    k0_pay73 (F := Ideal) x (ix2 r d) = if 64 ≤ d.val then x (ix2 r d) * (((Real.log 2)⁻¹ * 8⁻¹ : ℝ) : EReal) else 0 := by
  pointwise [k0_pay73, k0_pay70, k0_pay71]
  rw [WordCmp.cmpi_sge_ofNat (by have := d.isLt; norm_num; omega) (by norm_num)]
  by_cases h : 64 ≤ d.val
  · rw [if_pos h, decide_eq_true h]; rfl
  · rw [if_neg h, decide_eq_false h]; rfl

/-- The row before its normalisation: the first softmax's mix of the values less λ times the second's. -/
def mixed (A B : FVec Ideal S1x1024x256 .f32) (w : EReal) (r : Fin 1024) (l : Fin 128) : EReal :=
  Ideal.div (A (ix3 0 r ⟨l.val, by omega⟩)) (A (ix3 0 r ⟨128 + l.val, by omega⟩))
    - w * Ideal.div (B (ix3 0 r ⟨l.val, by omega⟩)) (B (ix3 0 r ⟨128 + l.val, by omega⟩))

/-- The output block at an index. -/
theorem fin_apply (lam : FVec Ideal S4x64 .f32) (A B : FVec Ideal S1x1024x256 .f32) (g : FVec Ideal S1x128 .f32) (r : Fin 1024) (l : Fin 128) :
    k0_pay93 (F := Ideal) (k0_pay92 lam) A B g (ix2 r l)
      = normed (mixed A B (weight (fun x => lam (ix2 0 x)) (fun x => lam (ix2 1 x)) (fun x => lam (ix2 2 x)) (fun x => lam (ix2 3 x))) r)
          (g (ix2 0 l)) l := by
  pointwise [k0_pay93, k0_pay92]
  rfl

end Cert.KernelIdeal.Attn
end
-- ==== Proof.Rows.lean ====
/-
  ONE ROW THROUGH ALL ITS BLOCKS, over the extended reals: the running maximum and sums after the blocks before the
  diagonal and after the masked block are those of a softmax over every key up to the query's own, so the quotients of
  the sums are the two softmaxes' mixes of the values.
-/
module

public import proofs.«01_k».proof.Proof.Online
public import proofs.«01_k».proof.Proof.Points

@[expose] public section

set_option backward.proofsInPublic true
set_option maxRecDepth 16384

noncomputable section

namespace Cert.KernelIdeal.Attn

open Cert.KernelIdeal Cert.KernelIdeal.Gen Cert.Attn
open Idealize.ShloMosaic Idealize.ShloMosaic.TcCoe Idealize.ShloMosaic.Tactic

variable (q : FVec Ideal S1024x128 .bf16) (kb : ℕ → FVec Ideal S1024x128 .bf16) (vb : ℕ → FVec Ideal S1024x256 .bf16) (r : Fin 1024)
  (s : ℕ → ℝ) (v : ℕ → Fin 256 → ℝ)

/-- After the first `n` blocks. -/
theorem row_at (hs : ∀ j, ∀ c : Fin 1024, sc (F := Ideal) q (kb j) (ix3 0 r c) = (s (1024 * j + c.val) : EReal))
    (hv : ∀ j, ∀ (c : Fin 1024) (l : Fin 256), vb j (ix2 c l) = (v (1024 * j + c.val) l : EReal)) (n : ℕ) :
    ∃ M : EReal, (∀ l : Fin 128, mAt (F := Ideal) q kb m0 n (ix3 0 r l) = M)
      ∧ Row (1024 * n) s v M (fun l : Fin 256 => aAt (F := Ideal) q kb vb m0 a0 n (ix3 0 r l)) := by
  induction n with
  | zero => exact ⟨⊥, fun l => ofBits_neg_inf, Row.zero s v ⊥ _ rfl fun l => Ideal.ofBits_zero_f32⟩
  | succ n ih =>
    obtain ⟨M, hM, hrow⟩ := ih
    refine ⟨max M (rowMax fun c => sc (F := Ideal) q (kb n) (ix3 0 r c)), fun l => ?_, ?_⟩
    · rw [mAt, mNew_apply, hM]
    · rw [Nat.mul_succ]
      refine Row.step hrow 1024 (by decide) le_rfl (fun c => sc (F := Ideal) q (kb n) (ix3 0 r c))
        (fun c => by rw [hs, if_pos c.isLt]) _ rfl _ fun l => ?_
      rw [aAt, aNew_apply _ _ _ _ r l M hM]
      simp only [hv]
      rfl

/-- After the masked block: the row of the query at position `1024 n + r` has every key up to its own. -/
theorem row_end (x3 : FVec Ideal S16384x128 .bf16) (xs : FVec Ideal S16384x256 .bf16)
    (hs : ∀ j, ∀ c : Fin 1024, sc (F := Ideal) q (kblk (F := Ideal) x3 j) (ix3 0 r c) = (s (1024 * j + c.val) : EReal))
    (hv : ∀ j, ∀ (c : Fin 1024) (l : Fin 256), vblk (F := Ideal) xs j (ix2 c l) = (v (1024 * j + c.val) l : EReal)) (n : ℕ) :
    ∃ M : EReal, Row (1024 * n + (r.val + 1)) s v M (fun l : Fin 256 => aEnd (F := Ideal) q x3 xs n (ix3 0 r l)) := by
  obtain ⟨M, hM, hrow⟩ := row_at q (kblk (F := Ideal) x3) (vblk (F := Ideal) xs) r s v hs hv n
  refine ⟨_, Row.step hrow (r.val + 1) (by omega) (by omega)
    (fun c => k0_pay82 (F := Ideal) (sc (F := Ideal) q (kblk (F := Ideal) x3 n)) (ix2 r c)) (fun c => by rw [mask_apply, hs]) _ rfl _ fun l => ?_⟩
  refine (diag_apply _ _ _ _ r l M hM).trans ?_
  simp only [hv]
  rfl

/-- A sum over 128 lanes of which only the first 64 count. -/
theorem sum_low (f : Fin 128 → ℝ) : (∑ d : Fin 128, if d.val < 64 then f d else 0) = ∑ d : Fin 64, f ⟨d.val, by omega⟩ := by
  rw [Fin.sum_univ_add (a := 64) (b := 64) (fun d : Fin 128 => if d.val < 64 then f d else 0)]
  refine (congrArg₂ _ (Finset.sum_congr rfl fun d _ => if_pos d.isLt) (Finset.sum_eq_zero fun d _ => if_neg (by simp))).trans (add_zero _)

/-- A sum over 128 lanes of which only the last 64 count. -/
theorem sum_high (f : Fin 128 → ℝ) : (∑ d : Fin 128, if 64 ≤ d.val then f d else 0) = ∑ d : Fin 64, f ⟨64 + d.val, by omega⟩ := by
  rw [Fin.sum_univ_add (a := 64) (b := 64) (fun d : Fin 128 => if 64 ≤ d.val then f d else 0)]
  refine (congrArg₂ _ (Finset.sum_eq_zero fun d _ => if_neg (by simp)) (Finset.sum_congr rfl fun d _ => if_pos (by simp))).trans (zero_add _)

variable (x2 : FVec Ideal S1024x128 .bf16) (x3 x4 : FVec Ideal S16384x128 .bf16) (Q : Fin 128 → ℝ) (K V : ℕ → Fin 128 → ℝ)

/-- A key lane of a block. -/
theorem kblk_apply (hK : ∀ (k : Fin 16384) d, x3 (ix2 k d) = (K k d : EReal)) (j : ℕ) (c : Fin 1024) (d : Fin 128) :
    kblk (F := Ideal) x3 j (ix2 c d) = (K ((1024 * j + c.val) % 16384) d : EReal) :=
  Eq.trans (show x3 _ = x3 _ from congrArg x3 (funext fun a => match a with | 0 => rfl | 1 => rfl))
    (hK ⟨(1024 * j + c.val) % 16384, Nat.mod_lt _ (by decide)⟩ d)

/-- The kernel's first score: in base two. -/
theorem sc_half0 (hQ : ∀ d, x2 (ix2 r d) = (Q d : EReal)) (hK : ∀ (k : Fin 16384) d, x3 (ix2 k d) = (K k d : EReal)) (j : ℕ) (c : Fin 1024) :
    sc (F := Ideal) (k0_pay72 (F := Ideal) x2) (kblk (F := Ideal) x3 j) (ix3 0 r c)
      = (score Q (fun k => K (k % 16384)) 0 (by decide) (1024 * j + c.val) * (Real.log 2)⁻¹ : ℝ) := by
  have e : ∀ d : Fin 128, k0_pay72 (F := Ideal) x2 (ix2 r d) * kblk (F := Ideal) x3 j (ix2 c d)
      = (((if d.val < 64 then Q d * ((Real.log 2)⁻¹ * 8⁻¹) * K ((1024 * j + c.val) % 16384) d else 0 : ℝ)) : EReal) := by
    intro d
    rw [half0_apply, kblk_apply x3 K hK, hQ]
    split_ifs <;> push_cast <;> simp
  refine (sc_apply _ _ r c).trans ((Finset.sum_congr rfl fun d _ => e d).trans ((coe_sum _ _).symm.trans (congrArg _ ?_)))
  rw [sum_low (fun d => _), score, Finset.sum_mul, Finset.sum_mul]
  refine Finset.sum_congr rfl fun d _ => ?_
  simp only [Nat.mul_zero, Nat.zero_add]
  ring

/-- The kernel's second score. -/
theorem sc_half1 (hQ : ∀ d, x2 (ix2 r d) = (Q d : EReal)) (hK : ∀ (k : Fin 16384) d, x3 (ix2 k d) = (K k d : EReal)) (j : ℕ) (c : Fin 1024) :
    sc (F := Ideal) (k0_pay73 (F := Ideal) x2) (kblk (F := Ideal) x3 j) (ix3 0 r c)
      = (score Q (fun k => K (k % 16384)) 1 (by decide) (1024 * j + c.val) * (Real.log 2)⁻¹ : ℝ) := by
  have e : ∀ d : Fin 128, k0_pay73 (F := Ideal) x2 (ix2 r d) * kblk (F := Ideal) x3 j (ix2 c d)
      = (((if 64 ≤ d.val then Q d * ((Real.log 2)⁻¹ * 8⁻¹) * K ((1024 * j + c.val) % 16384) d else 0 : ℝ)) : EReal) := by
    intro d
    rw [half1_apply, kblk_apply x3 K hK, hQ]
    split_ifs <;> push_cast <;> simp
  refine (sc_apply _ _ r c).trans ((Finset.sum_congr rfl fun d _ => e d).trans ((coe_sum _ _).symm.trans (congrArg _ ?_)))
  rw [sum_high (fun d => _), score, Finset.sum_mul, Finset.sum_mul]
  refine Finset.sum_congr rfl fun d _ => ?_
  simp only [Nat.mul_one]
  ring

/-- A value lane, or one. -/
theorem vblk_apply (hV : ∀ (k : Fin 16384) d, x4 (ix2 k d) = (V k d : EReal)) (j : ℕ) (c : Fin 1024) (l : Fin 256) :
    vblk (F := Ideal) (vxOf (F := Ideal) x4) j (ix2 c l)
      = ((if h : l.val < 128 then V ((1024 * j + c.val) % 16384) ⟨l.val, h⟩ else 1 : ℝ) : EReal) := by
  by_cases h : l.val < 128
  · rw [dif_pos h]
    refine Eq.trans ?_ (hV ⟨(1024 * j + c.val) % 16384, Nat.mod_lt _ (by decide)⟩ ⟨l.val, h⟩)
    exact (dif_pos h).trans (congrArg x4 (funext fun a => match a with | 0 => rfl | 1 => rfl))
  · rw [dif_neg h]
    exact (dif_neg h).trans Ideal.ofBits_one_bf16

/-- The row before its normalisation, as two mixes. -/
theorem mixed_eq (hQ : ∀ d, x2 (ix2 r d) = (Q d : EReal)) (hK : ∀ (k : Fin 16384) d, x3 (ix2 k d) = (K k d : EReal))
    (hV : ∀ (k : Fin 16384) d, x4 (ix2 k d) = (V k d : EReal)) (w : EReal) (n : ℕ) (l : Fin 128) :
    mixed (aEnd (F := Ideal) (k0_pay72 (F := Ideal) x2) x3 (vxOf (F := Ideal) x4) n) (aEnd (F := Ideal) (k0_pay73 (F := Ideal) x2) x3 (vxOf (F := Ideal) x4) n) w r l
      = (quot (score Q (fun k => K (k % 16384)) 0 (by decide)) (fun k => V (k % 16384) l) (1024 * n + (r.val + 1)) : EReal)
        - w * (quot (score Q (fun k => K (k % 16384)) 1 (by decide)) (fun k => V (k % 16384) l) (1024 * n + (r.val + 1)) : EReal) := by
  obtain ⟨M₀, h₀⟩ := row_end (k0_pay72 (F := Ideal) x2) r (fun k => score Q (fun k => K (k % 16384)) 0 (by decide) k * (Real.log 2)⁻¹)
    (fun k l => if h : l.val < 128 then V (k % 16384) ⟨l.val, h⟩ else 1) x3 _ (sc_half0 r x2 x3 Q K hQ hK) (vblk_apply x4 V hV) n
  obtain ⟨M₁, h₁⟩ := row_end (k0_pay73 (F := Ideal) x2) r (fun k => score Q (fun k => K (k % 16384)) 1 (by decide) k * (Real.log 2)⁻¹)
    (fun k l => if h : l.val < 128 then V (k % 16384) ⟨l.val, h⟩ else 1) x3 _ (sc_half1 r x2 x3 Q K hQ hK) (vblk_apply x4 V hV) n
  have e₀ := h₀.quot (by omega) _ (fun _ => rfl) ⟨l.val, by omega⟩ ⟨128 + l.val, by omega⟩ (fun k => dif_neg (by simp))
  have e₁ := h₁.quot (by omega) _ (fun _ => rfl) ⟨l.val, by omega⟩ ⟨128 + l.val, by omega⟩ (fun k => dif_neg (by simp))
  simp only [dif_pos l.isLt] at e₀ e₁
  unfold mixed
  rw [e₀, e₁]
  rfl

end Cert.KernelIdeal.Attn
end
-- ==== Proof.Reference.lean ====
/-
  THE REFERENCE AT AN INDEX, over the extended reals: its masked scores, its softmax rows, their difference mixed with
  the values, and the normalised head.
-/
module

public import proofs.«01_k».proof.Proof.Gen.ReferenceIdeal.Read
public import proofs.«01_k».proof.Proof.Norm
public import proofs.«01_k».proof.Proof.Online
public import Idealize.ShloMosaic.Lib.Pointwise
public import Idealize.ShloMosaic.Lib.IdealHost
public import Idealize.ShloMosaic.Lib.WordCmp

@[expose] public section

set_option backward.proofsInPublic true
set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe Idealize.ShloMosaic.Tactic

variable (x0 : FVec Ideal S16384x6400 .bf16) (x1 x2 x3 x4 : FVec Ideal S64 .f32) (x5 : FVec Ideal S128 .f32)

/-- A product of a query with a key, in half `m` of head `h`. -/
theorem v15_at (h : Fin 8) (m : Fin 2) (q k : Fin 16384) :
    val_main_v15 (F := Ideal) x0 (ix4 h m q k)
      = ∑ d : Fin 64, x0 (ix2 q ⟨h.val * 128 + m.val * 64 + d.val, by omega⟩) * x0 (ix2 k ⟨1024 + (h.val * 128 + m.val * 64 + d.val), by omega⟩) := by
  pointwise [val_main_v15, val_main_v4, val_main_v3, val_main_v2, val_main_v1, val_main_v0]

/-- A masked score. -/
theorem v24_at (h : Fin 8) (m : Fin 2) (q k : Fin 16384) :
    val_main_v24 (F := Ideal) x0 (ix4 h m q k)
      = if k.val < q.val + 1 then val_main_v15 (F := Ideal) x0 (ix4 h m q k) * (((8 : ℝ)⁻¹ : ℝ) : EReal) else ⊥ := by
  pointwise [val_main_v24, val_main_v23, val_main_v22, val_main_v21, val_main_v20, val_main_v19, val_main_v18, val_main_v17, val_main_v16,
    val_main_cst_2, val_main_cst_3, val_main_call0_v2, val_main_call0_v1, val_main_call0_v0]
  rw [WordCmp.cmpi_sle_ofNat (by have := k.isLt; norm_num; omega) (by have := q.isLt; norm_num; omega), ofBits_eighth]
  by_cases hk : k.val < q.val + 1
  · rw [if_pos hk, decide_eq_true (by omega)]; rfl
  · rw [if_neg hk, decide_eq_false (by omega)]; exact ofBits_neg_inf

/-- The greatest score of a row. -/
theorem v27_at (h : Fin 8) (m : Fin 2) (q : Fin 16384) :
    val_main_v27 (F := Ideal) x0 (ix3 h m q) = Finset.univ.fold max ⊥ fun k : Fin 16384 => val_main_v24 (F := Ideal) x0 (ix4 h m q k) := by
  have e : val_main_v25 (F := Ideal) x0 (ix3 h m q) = Finset.univ.fold max ⊥ fun k : Fin 16384 => val_main_v24 (F := Ideal) x0 (ix4 h m q k) := by
    pointwise [val_main_v25, val_main_cst_4]
    rw [ofBits_neg_inf]
  rw [val_main_v27_apply, val_main_v26_apply, val_main_cst_5_apply, e]
  exact (congrArg₂ max ofBits_neg_inf rfl).trans (max_eq_right bot_le)

/-- An exponential. -/
theorem v31_at (h : Fin 8) (m : Fin 2) (q k : Fin 16384) :
    val_main_v31 (F := Ideal) x0 (ix4 h m q k)
      = Ideal.exp (val_main_v24 (F := Ideal) x0 (ix4 h m q k) - val_main_v27 (F := Ideal) x0 (ix3 h m q)) := by
  pointwise [val_main_v31, val_main_v30, val_main_v29, val_main_v28]

/-- A row's sum of exponentials. -/
theorem v32_at (h : Fin 8) (m : Fin 2) (q : Fin 16384) :
    val_main_v32 (F := Ideal) x0 (ix3 h m q) = ∑ k : Fin 16384, val_main_v31 (F := Ideal) x0 (ix4 h m q k) := by
  pointwise [val_main_v32, val_main_cst_6]

/-- A softmax weight. -/
theorem v35_at (h : Fin 8) (m : Fin 2) (q k : Fin 16384) :
    val_main_v35 (F := Ideal) x0 (ix4 h m q k)
      = Ideal.div (val_main_v31 (F := Ideal) x0 (ix4 h m q k)) (val_main_v32 (F := Ideal) x0 (ix3 h m q)) := by
  pointwise [val_main_v35, val_main_v34, val_main_v33]

/-- The weight λ. -/
theorem v14_at : val_main_v14 (F := Ideal) x1 x2 x3 x4 ix0
    = weight (fun x => x1 (ix1 x)) (fun x => x2 (ix1 x)) (fun x => x3 (ix1 x)) (fun x => x4 (ix1 x)) := by
  pointwise [val_main_v14, val_main_v13, val_main_v12, val_main_v11, val_main_v10, val_main_v9, val_main_v8, val_main_v7, val_main_cst, val_main_cst_0,
    val_main_cst_1]
  rfl

/-- The first softmax. -/
theorem v37_at (h : Fin 8) (q k : Fin 16384) :
    val_main_v37 (F := Ideal) x0 (ix3 h q k) = val_main_v35 (F := Ideal) x0 (ix4 h 0 q k) := by
  pointwise [val_main_v37, val_main_v36]

/-- The second softmax. -/
theorem v39_at (h : Fin 8) (q k : Fin 16384) :
    val_main_v39 (F := Ideal) x0 (ix3 h q k) = val_main_v35 (F := Ideal) x0 (ix4 h 1 q k) := by
  pointwise [val_main_v39, val_main_v38]

/-- λ at every place. -/
theorem v40_at (h : Fin 8) (q k : Fin 16384) :
    val_main_v40 (F := Ideal) x1 x2 x3 x4 (ix3 h q k) = val_main_v14 (F := Ideal) x1 x2 x3 x4 ix0 := by
  pointwise [val_main_v40]

/-- The difference of the two softmaxes. -/
theorem v42_at (h : Fin 8) (q k : Fin 16384) :
    val_main_v42 (F := Ideal) x0 x1 x2 x3 x4 (ix3 h q k)
      = val_main_v35 (F := Ideal) x0 (ix4 h 0 q k)
        - weight (fun x => x1 (ix1 x)) (fun x => x2 (ix1 x)) (fun x => x3 (ix1 x)) (fun x => x4 (ix1 x)) * val_main_v35 (F := Ideal) x0 (ix4 h 1 q k) := by
  rw [val_main_v42_apply, val_main_v41_apply, v37_at, v39_at, v40_at, v14_at]
  rfl

/-- A value. -/
theorem v6_at (h : Fin 8) (q : Fin 16384) (l : Fin 128) :
    val_main_v6 (F := Ideal) x0 (ix3 q h l) = x0 (ix2 q ⟨2048 + (h.val * 128 + l.val), by omega⟩) := by
  pointwise [val_main_v6, val_main_v5, val_main_v0]

/-- A row before its normalisation. -/
theorem v44_at (h : Fin 8) (q : Fin 16384) (l : Fin 128) :
    val_main_v44 (F := Ideal) x0 x1 x2 x3 x4 (ix3 q h l)
      = ∑ k : Fin 16384, val_main_v6 (F := Ideal) x0 (ix3 k h l) * val_main_v42 (F := Ideal) x0 x1 x2 x3 x4 (ix3 h q k) := by
  pointwise [val_main_v44, val_main_v43]

/-- The result. -/
theorem v61_at (q : Fin 16384) (l : Fin 1024) :
    val_main_v61 (F := Ideal) x0 x1 x2 x3 x4 x5 (ix2 q l)
      = normed (fun x => val_main_v44 (F := Ideal) x0 x1 x2 x3 x4 (ix3 q ⟨l.val / 128, by omega⟩ x)) (x5 (ix1 ⟨l.val % 128, by omega⟩)) ⟨l.val % 128, by omega⟩ := by
  pointwise [val_main_v61, val_main_v60, val_main_v59, val_main_v58, val_main_v57, val_main_v56, val_main_v55, val_main_v54, val_main_v53, val_main_v52,
    val_main_v51, val_main_v50, val_main_v49, val_main_v48, val_main_v47, val_main_v46, val_main_v45, val_main_cst_7, val_main_cst_8, val_main_cst_9,
    val_main_cst_10]
  rfl

variable (X : ℕ → ℕ → ℝ) (hX : ∀ (q : Fin 16384) (c : ℕ) (hc : c < 3072), x0 (ix2 q ⟨c, by omega⟩) = (X q c : EReal))

include hX in
/-- A masked score, of real queries and keys. -/
theorem v24_real (h : Fin 8) (m : Fin 2) (q k : Fin 16384) :
    val_main_v24 (F := Ideal) x0 (ix4 h m q k)
      = if k.val < q.val + 1 then (score (fun d => X q (128 * h.val + d.val)) (fun k d => X (k % 16384) (1024 + (128 * h.val + d.val))) m.val m.isLt k.val : EReal)
        else ⊥ := by
  rw [v24_at]
  refine if_congr Iff.rfl ?_ rfl
  rw [v15_at, score, EReal.coe_mul, coe_sum]
  refine congrArg (· * _) (Finset.sum_congr rfl fun d _ => ?_)
  rw [hX q _ (by omega), hX k _ (by omega), ← EReal.coe_mul]
  simp only [Nat.mod_eq_of_lt k.isLt]
  rw [show h.val * 128 + m.val * 64 + d.val = 128 * h.val + (64 * m.val + d.val) by omega]

include hX in
/-- A softmax weight, of real queries and keys. -/
theorem v35_real (h : Fin 8) (m : Fin 2) (q k : Fin 16384) :
    val_main_v35 (F := Ideal) x0 (ix4 h m q k)
      = ((if k.val < q.val + 1 then
            Real.exp (score (fun d => X q (128 * h.val + d.val)) (fun k d => X (k % 16384) (1024 + (128 * h.val + d.val))) m.val m.isLt k.val)
              / ∑ j ∈ Finset.range (q.val + 1),
                  Real.exp (score (fun d => X q (128 * h.val + d.val)) (fun k d => X (k % 16384) (1024 + (128 * h.val + d.val))) m.val m.isLt j)
          else 0 : ℝ) : EReal) := by
  have e := softmax_row (N := 16384) (n := q.val + 1) (by omega) (by omega) _ _ (v24_real x0 X hX h m q) _ (v27_at x0 h m q) k
  rw [v35_at, v32_at]
  simp only [v31_at]
  exact e

include hX in
/-- A row before its normalisation, as two mixes of the values. -/
theorem v44_real (h : Fin 8) (q : Fin 16384) (l : Fin 128) (w : ℝ)
    (hw : weight (fun x => x1 (ix1 x)) (fun x => x2 (ix1 x)) (fun x => x3 (ix1 x)) (fun x => x4 (ix1 x)) = w) :
    val_main_v44 (F := Ideal) x0 x1 x2 x3 x4 (ix3 q h l)
      = (quot (score (fun d => X q (128 * h.val + d.val)) (fun k d => X (k % 16384) (1024 + (128 * h.val + d.val))) 0 (by decide))
            (fun k => X (k % 16384) (2048 + (128 * h.val + l.val))) (q.val + 1) : EReal)
        - (w : EReal) * (quot (score (fun d => X q (128 * h.val + d.val)) (fun k d => X (k % 16384) (1024 + (128 * h.val + d.val))) 1 (by decide))
            (fun k => X (k % 16384) (2048 + (128 * h.val + l.val))) (q.val + 1) : EReal) := by
  refine Eq.trans ?_ (mix (N := 16384) (n := q.val + 1) (by omega) _ _
    (fun k => X (k % 16384) (2048 + (128 * h.val + l.val))) w _ _ (v35_real x0 X hX h 0 q) (v35_real x0 X hX h 1 q)).symm
  rw [v44_at]
  refine Finset.sum_congr rfl fun k _ => ?_
  rw [v42_at, v6_at, hw, hX k _ (by omega), mul_comm, show h.val * 128 + l.val = 128 * h.val + l.val by omega]
  simp only [Nat.mod_eq_of_lt k.isLt]

end Cert.ReferenceIdeal.Attn
end
-- ==== Proof.Finite.lean ====
/-
  THE PRECONDITION READ: where `finite_inputs` is all ones, the queries, keys and values and the four vectors of λ are
  real numbers.
-/
module

public import proofs.«01_k».proof.Proof.Gen.Pre_finite_inputs
public import Idealize.ShloMosaic.Lib.Pointwise
public import Idealize.ShloMosaic.Lib.ReduceAll
public import Idealize.ShloMosaic.Lib.ValueIdx
public import Idealize.ShloMosaic.PureOps.Ideal.Laws

@[expose] public section

set_option backward.proofsInPublic true
set_option maxRecDepth 16384

noncomputable section

namespace Cert.Pre_finite_inputs.Attn

open Cert.Pre_finite_inputs Cert.Pre_finite_inputs.Gen
open Idealize.ShloMosaic Idealize.ShloMosaic.Tactic

/-- A number below infinity in size is real. -/
theorem real_of_abs (x : EReal) (h : FloatOps.cmpf (F := Ideal) (φ := .f32) .olt (FloatOps.absf (F := Ideal) (φ := .f32) x) (Ideal.ofBits .f32 0x7F800000#32) = 1#1) :
    x = (x.toReal : EReal) := by
  have ht : Ideal.ofBits .f32 0x7F800000#32 = ⊤ := by simp [Ideal.ofBits, Ideal.ieee]
  rw [ht] at h
  have hlt : max x (-x) < ⊤ := by
    by_contra hc
    have : FloatOps.cmpf (F := Ideal) (φ := .f32) .olt (FloatOps.absf (F := Ideal) (φ := .f32) x) ⊤ = BitVec.ofBool (decide (max x (-x) < ⊤)) := rfl
    rw [this, decide_eq_false hc] at h
    exact absurd h (by decide)
  obtain ⟨h1, h2⟩ := max_lt_iff.mp hlt
  exact (EReal.coe_toReal h1.ne (fun hb => by rw [hb] at h2; exact absurd h2 (by simp))).symm

/-- A conjunction of one-bit words that is one. -/
theorem and_one {a b : BitVec 1} (h : a &&& b = 1#1) : a = 1#1 ∧ b = 1#1 := by
  revert a b
  decide

variable (x0 : FVec Ideal S16384x6400 .bf16) (x1 x2 x3 x4 : FVec Ideal S64 .f32) (x5 : FVec Ideal S128 .f32)

instance : Subsingleton S_.Idx := ⟨fun a b => funext fun i => i.elim0⟩

theorem reals (h : fn (F := Ideal) x0 x1 x2 x3 x4 x5 = fun _ => 1#1) :
    (∀ (q : Fin 16384) (c : ℕ) (hc : c < 3072), x0 (ix2 q ⟨c, by omega⟩) = ((x0 (ix2 q ⟨c, by omega⟩)).toReal : EReal))
      ∧ (∀ d : Fin 64, x1 (ix1 d) = ((x1 (ix1 d)).toReal : EReal)) ∧ (∀ d : Fin 64, x2 (ix1 d) = ((x2 (ix1 d)).toReal : EReal))
      ∧ (∀ d : Fin 64, x3 (ix1 d) = ((x3 (ix1 d)).toReal : EReal)) ∧ (∀ d : Fin 64, x4 (ix1 d) = ((x4 (ix1 d)).toReal : EReal)) := by
  have e := congrFun h ix0
  dsimp only [fn, fn_part1] at e
  obtain ⟨e, e4⟩ := and_one e
  obtain ⟨e, e3⟩ := and_one e
  obtain ⟨e, e2⟩ := and_one e
  obtain ⟨e0, e1⟩ := and_one e
  refine ⟨fun q c hc => ?_, fun d => ?_, fun d => ?_, fun d => ?_, fun d => ?_⟩
  · have := Host.reduce_andi_all _ _ _ _ _ e0 (ix2 q ⟨c, hc⟩)
    refine real_of_abs _ ?_
    rw [← this]
    pointwise []
  · exact real_of_abs _ (Host.reduce_andi_all _ _ _ _ _ e1 (ix1 d))
  · exact real_of_abs _ (Host.reduce_andi_all _ _ _ _ _ e2 (ix1 d))
  · exact real_of_abs _ (Host.reduce_andi_all _ _ _ _ _ e3 (ix1 d))
  · exact real_of_abs _ (Host.reduce_andi_all _ _ _ _ _ e4 (ix1 d))

end Cert.Pre_finite_inputs.Attn
end
-- ==== Proof.Value.lean ====
/-
  THE RESULT OF THE LAUNCH IS THE REFERENCE'S: each block a grid point reads, as entries of the arguments; the block it
  computes, by the rows; and the equation with the reference at every index.
-/
module

public import proofs.«01_k».proof.Proof.Launch
public import proofs.«01_k».proof.Proof.Rows
public import proofs.«01_k».proof.Proof.Reference
public import proofs.«01_k».proof.Proof.Finite
public import Idealize.ShloMosaic.Lib.StableHlo.ReadAt

@[expose] public section

set_option backward.proofsInPublic true
set_option maxRecDepth 16384

noncomputable section

namespace Cert.KernelIdeal.Attn

open Cert.KernelIdeal Cert.KernelIdeal.Gen Cert.Attn
open Idealize.ShloMosaic Idealize.ShloMosaic.TcCoe Idealize.ShloMosaic.Tactic Idealize.SL.Sem

variable (m : (ℓ : Loc nD τ sig) → Buf (Elt Ideal) ℓ) (c : Dev nD)

/-- Where each window's block lies at a point: its head is `t / 16`, its query block `t % 16`. -/
theorem places : ∀ t : Fin cfg0.N, win0_0.index t = ![0, 0] ∧ win0_1.index t = ![0, 0] ∧ win0_2.index t = ![t.val % 16, t.val / 16]
    ∧ win0_3.index t = ![0, 8 + t.val / 16] ∧ win0_4.index t = ![0, 16 + t.val / 16] :=
  (by decide +kernel : ∀ t : Fin grid0.N, win0_0.index t = ![0, 0] ∧ win0_1.index t = ![0, 0] ∧ win0_2.index t = ![t.val % 16, t.val / 16]
    ∧ win0_3.index t = ![0, 8 + t.val / 16] ∧ win0_4.index t = ![0, 16 + t.val / 16])

theorem lt_128 (t : Fin cfg0.N) : t.val < 128 := lt_of_lt_of_eq t.isLt N_0

/-- The queries. -/
theorem blk2_at (t : Fin cfg0.N) (r : Fin 1024) (d : Fin 128) :
    iblk m c 2 t (ix2 r d) = m ((c.tc : Thread nD τ).loc main_arg0)
      (ix2 ⟨1024 * (t.val % 16) + r.val, by omega⟩ ⟨128 * (t.val / 16) + d.val, by have := lt_128 t; omega⟩) := by
  obtain ⟨e0, e1, e2, e3, e4⟩ := places t
  blk_ext [iblk, V, e2]

/-- The keys. -/
theorem blk3_at (t : Fin cfg0.N) (k : Fin 16384) (d : Fin 128) :
    iblk m c 3 t (ix2 k d) = m ((c.tc : Thread nD τ).loc main_arg0)
      (ix2 k ⟨1024 + (128 * (t.val / 16) + d.val), by have := lt_128 t; omega⟩) := by
  obtain ⟨e0, e1, e2, e3, e4⟩ := places t
  blk_ext [iblk, V, e3]

/-- The values. -/
theorem blk4_at (t : Fin cfg0.N) (k : Fin 16384) (d : Fin 128) :
    iblk m c 4 t (ix2 k d) = m ((c.tc : Thread nD τ).loc main_arg0)
      (ix2 k ⟨2048 + (128 * (t.val / 16) + d.val), by have := lt_128 t; omega⟩) := by
  obtain ⟨e0, e1, e2, e3, e4⟩ := places t
  blk_ext [iblk, V, e4]

/-- The gain. -/
theorem blk1_at (t : Fin cfg0.N) (l : Fin 128) :
    iblk m c 1 t (ix2 0 l) = m ((c.tc : Thread nD τ).loc main_arg5) (ix1 l) := by
  obtain ⟨e0, e1, e2, e3, e4⟩ := places t
  refine Eq.trans (b := V m c main_v5 (ix2 0 l)) (by blk_ext [iblk, e1]) ?_
  entry_read
  pointwise []

/-- The four vectors of λ. -/
theorem blk0_at (t : Fin cfg0.N) (x : Fin 64) :
    iblk m c 0 t (ix2 0 x) = m ((c.tc : Thread nD τ).loc main_arg1) (ix1 x)
    ∧ iblk m c 0 t (ix2 1 x) = m ((c.tc : Thread nD τ).loc main_arg2) (ix1 x)
    ∧ iblk m c 0 t (ix2 2 x) = m ((c.tc : Thread nD τ).loc main_arg3) (ix1 x)
    ∧ iblk m c 0 t (ix2 3 x) = m ((c.tc : Thread nD τ).loc main_arg4) (ix1 x) := by
  obtain ⟨e0, e1, e2, e3, e4⟩ := places t
  have h0 : V m c main_v4 (ix2 0 x) = m ((c.tc : Thread nD τ).loc main_arg1) (ix1 x) := by
    unfold V
    after_reads_at
    rw [StableHlo.unary_result]
    after_reads_at
  have h1 : V m c main_v4 (ix2 1 x) = m ((c.tc : Thread nD τ).loc main_arg2) (ix1 x) := by
    unfold V
    after_reads_at
    rw [StableHlo.unary_result]
    after_reads_at
  have h2 : V m c main_v4 (ix2 2 x) = m ((c.tc : Thread nD τ).loc main_arg3) (ix1 x) := by
    unfold V
    after_reads_at
    rw [StableHlo.unary_result]
    after_reads_at
  have h3 : V m c main_v4 (ix2 3 x) = m ((c.tc : Thread nD τ).loc main_arg4) (ix1 x) := by
    unfold V
    after_reads_at
    rw [StableHlo.unary_result]
    after_reads_at
  exact ⟨Eq.trans (by blk_ext [iblk, e0]) h0, Eq.trans (by blk_ext [iblk, e0]) h1, Eq.trans (by blk_ext [iblk, e0]) h2, Eq.trans (by blk_ext [iblk, e0]) h3⟩

variable (hpre : Pre_finite_inputs.fn (F := Ideal) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) = fun _ => 1#1)

/-- The queries, keys and values as numbers. -/
def nums (q k : ℕ) : ℝ :=
  if h : q < 16384 ∧ k < 6400 then (m ((c.tc : Thread nD τ).loc main_arg0) (ix2 (⟨q, h.1⟩ : Fin 16384) (⟨k, h.2⟩ : Fin 6400)) : EReal).toReal else 0

include hpre in
theorem nums_eq (q : Fin 16384) (k : ℕ) (hk : k < 3072) :
    m ((c.tc : Thread nD τ).loc main_arg0) (ix2 q ⟨k, by omega⟩) = (nums m c q.val k : EReal) := by
  refine ((Pre_finite_inputs.Attn.reals _ _ _ _ _ _ hpre).1 q k hk).trans ?_
  unfold nums
  rw [dif_pos ⟨q.isLt, by omega⟩]

include hpre in
/-- Row by row the launch leaves what the reference computes. -/
theorem result_eq (i : S16384x1024.Idx) :
    G m c i = ReferenceIdeal.Read.val_main_v61 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) i := by
  obtain ⟨-, r1, r2, r3, r4⟩ := Pre_finite_inputs.Attn.reals _ _ _ _ _ _ hpre
  obtain ⟨w, hw⟩ := weight_real (fun x => m ((c.tc : Thread nD τ).loc main_arg1) (ix1 x)) (fun x => m ((c.tc : Thread nD τ).loc main_arg2) (ix1 x))
    (fun x => m ((c.tc : Thread nD τ).loc main_arg3) (ix1 x)) (fun x => m ((c.tc : Thread nD τ).loc main_arg4) (ix1 x)) _ _ _ _ r1 r2 r3 r4
  obtain ⟨q, l, rfl⟩ : ∃ (q : Fin 16384) (l : Fin 1024), i = ix2 q l := ⟨i 0, i 1, eq_ix2 i⟩
  have ht : (ptOf (ix2 q l)).val = q.val / 1024 + 16 * (l.val / 128) := rfl
  have hd : (ptOf (ix2 q l)).val / 16 = l.val / 128 := by omega
  have hm : (ptOf (ix2 q l)).val % 16 = q.val / 1024 := by omega
  have hc : (grid0.coords (ptOf (ix2 q l)) 1).val = q.val / 1024 := by
    have h : (grid0.coords (ptOf (ix2 q l)) 1).val = (ptOf (ix2 q l)).val / 1 % 16 := Pipeline.Grid.coords_val (ptOf (ix2 q l)) 1 (by decide) rfl
    omega
  have hl : locOf (ix2 q l) = ix2 (⟨q.val % 1024, by omega⟩ : Fin 1024) (⟨l.val % 128, by omega⟩ : Fin 128) := by
    funext a
    match a with
    | 0 => rfl
    | 1 => rfl
  have hX := nums_eq m c hpre
  unfold G outAt outV
  rw [hl, hc, fin_apply, ReferenceIdeal.Attn.v61_at, blk1_at]
  simp only [(blk0_at m c (ptOf (ix2 q l)) _).1, (blk0_at m c (ptOf (ix2 q l)) _).2.1, (blk0_at m c (ptOf (ix2 q l)) _).2.2.1,
    (blk0_at m c (ptOf (ix2 q l)) _).2.2.2]
  refine congrArg (fun o => normed o _ _) (funext fun d => ?_)
  refine (mixed_eq _ _ _ _ (fun d => nums m c q.val (128 * (l.val / 128) + d.val)) (fun k d => nums m c k (1024 + (128 * (l.val / 128) + d.val)))
    (fun k d => nums m c k (2048 + (128 * (l.val / 128) + d.val))) (fun d => ?_) (fun k d => ?_) (fun k d => ?_) _ _ d).trans ?_
  · refine (blk2_at m c _ _ d).trans ((congrArg _ ?_).trans (hX q _ (by omega)))
    blk_ext []
  · refine (blk3_at m c _ k d).trans ((congrArg _ ?_).trans (hX k _ (by omega)))
    blk_ext []
  · refine (blk4_at m c _ k d).trans ((congrArg _ ?_).trans (hX k _ (by omega)))
    blk_ext []
  · rw [hw, show 1024 * (q.val / 1024) + (q.val % 1024 + 1) = q.val + 1 by omega]
    exact (ReferenceIdeal.Attn.v44_real _ _ _ _ _ (nums m c) hX ⟨l.val / 128, by omega⟩ q d w hw).symm

end Cert.KernelIdeal.Attn
end
-- ==== Proof.Plain.lean ====
module

public import proofs.«01_k».proof.Defs
public import proofs.«01_k».proof.Proof.Gen.Kernel
public import proofs.«01_k».proof.Proof.Launch

/-!
# The program with its constant as written

The program and the one with the constant named differ in that constant alone. The run of the latter is
proved whatever the name is read as; read as the bits the program writes, it is the run of the former.
-/

@[expose] public section

set_option maxRecDepth 65536
set_option maxHeartbeats 4000000

noncomputable section

open Idealize.ShloMosaic

namespace Cert.Kernel.Attn

/-- The constant read as the program writes it: its bits. -/
@[implicit_reducible] def asWritten : Named Bits where
  named _ _ {φ} bits := Scalar.ofBits φ bits

attribute [local instance] asWritten

/-- The two programs are one. -/
theorem main_eq : Cert.Kernel.main (F := Bits) = Cert.KernelIdeal.main (F := Bits) := rfl

/-- So are the bodies of their kernels, at each label. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

/-- So the launches run the same bodies. -/
theorem defs_eq : Cert.Kernel.defs (F := Bits) = Cert.KernelIdeal.defs (F := Bits) :=
  congrArg (Pipeline.defs Cert.Kernel.pcfgs) bodies_eq

/-- The program runs, its arguments end unchanged and every counter ends at zero. -/
theorem frame : Cert.quiescent_Kernel := by
  intro m ρ _
  rw [defs_eq, main_eq]
  exact Cert.KernelIdeal.Attn.frame (F := Bits) m ρ

end Cert.Kernel.Attn

end
-- ==== Proof.FfnBody.lean ====
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-!
# The expert feed-forward: what one tile computes, and the three runs of its body

The body reads three words of the tables: how many tiles are used, the expert of this tile and the
expert of the tile before. A used tile whose expert differs from the one before (or which is the first)
first brings its expert's weights into the two scratches; a used tile then computes from the scratches;
a tile that is not used stores zeros.
-/

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the tiles' experts, and the table of the number of tiles used. -/
abbrev tblE : Memref sig .tc .smem S144 .i32 := Memref.whole main_arg0
abbrev tblN : Memref sig .tc .smem S1 .i32 := Memref.whole main_arg1
/-- The scratches: the two first weights side by side, and the last weights. -/
abbrev scrA : Memref sig .tc .vmem S2048x1280 .bf16 := Memref.whole cc0_scratch0
abbrev scrB : Memref sig .tc .vmem S640x2048 .bf16 := Memref.whole cc0_scratch1

/-- The number of tiles used, as the body reads it. -/
abbrev nUsed (T1 : S1.Idx → Elt F .i32) : BitVec 32 :=
  View.readAt (Elt F) tblN.view (Rect.unit (s := S1) ![0] S1.size inb_S1_S1_0).toLoadRect T1 (Shape.Idx.first (numel1_S1.symm ▸ Nat.one_pos))

/-- The expert of the tile, as the body reads it. -/
abbrev eThis (i : grid0.Coords) (T0 : S144.Idx → Elt F .i32) : BitVec 32 :=
  View.readAt (Elt F) tblE.view (Rect.unit (s := S144) (k0_off1 i) S1.size (k0_off1_inb i)).toLoadRect T0 (Shape.Idx.first (numel1_S1.symm ▸ Nat.one_pos))

/-- The expert of the tile before, as the body reads it. -/
abbrev ePrev (i : grid0.Coords) (T0 : S144.Idx → Elt F .i32) : BitVec 32 :=
  View.readAt (Elt F) tblE.view (Rect.unit (s := S144) (k0_off2 i) S1.size (k0_off2_inb i)).toLoadRect T0 (Shape.Idx.first (numel1_S1.symm ▸ Nat.one_pos))

/-- The decision to bring new weights in. -/
abbrev reload (i : grid0.Coords) (T0 : S144.Idx → Elt F .i32) (T1 : S1.Idx → Elt F .i32) : Prop :=
  Scalar.cmpi .ne (Scalar.extui (Scalar.andi (Scalar.cmpi .slt (BitVec.ofNat 32 (i 0).val) (nUsed (F := F) T1))
    (Scalar.ori (Scalar.cmpi .eq (BitVec.ofNat 32 (i 0).val) 0#32) (Scalar.cmpi .ne (eThis (F := F) i T0) (ePrev (F := F) i T0))))) 0#32 = 1#1

/-- The first two weights of an expert side by side, rounded. -/
def wguOf (x1 x2 : Vec F S1x2048x640 .f32) : Vec F S2048x1280 .bf16 := fun y =>
  if h : (y 1).val < 640 then k0_pay1 x1 (fun a => match a with
    | ⟨0, _⟩ => ⟨(y 0).val, (y 0).isLt⟩
    | ⟨1, _⟩ => ⟨(y 1).val, h⟩)
  else k0_pay2 x2 (fun a => match a with
    | ⟨0, _⟩ => ⟨(y 0).val, (y 0).isLt⟩
    | ⟨1, _⟩ => ⟨(y 1).val - 640, by have h1 : (y 1).val < 1280 := (y 1).isLt; show (y 1).val - 640 < 640; omega⟩)

/-- A load of the whole buffer reads its contents. -/
theorem load_whole {s : Shape} {e : EltTy} (a : Memref sig .tc .vmem s e) (ha : a.IsWhole) (x : Vec F s e) (off : Fin s.rank → ℕ)
    (hoff : ∀ b, off b = 0) (inb) : a.view.readAt (Elt F) (Rect.unit (s := s) off s.size inb).toLoadRect (ha.unread x) = x := by
  funext y
  refine (congrFun (ha.read_unread x) _).trans (congrArg x (funext fun b => Fin.ext ?_))
  show off b + 1 * (y b).val = (y b).val
  rw [hoff b]; omega

/-- A load of the whole buffer reads what a reading of the buffer is known to be. -/
theorem load_read {s : Shape} {e : EltTy} (a : Memref sig .tc .vmem s e) (f : a.view.ty.Contents (Elt F)) (x : Vec F s e)
    (hf : a.view.read (Elt F) f = x) (off : Fin s.rank → ℕ)
    (hoff : ∀ b, off b = 0) (inb) : a.view.readAt (Elt F) (Rect.unit (s := s) off s.size inb).toLoadRect f = x := by
  subst hf
  funext y
  refine congrArg (a.view.read (Elt F) f) (funext fun b => Fin.ext ?_)
  show off b + 1 * (y b).val = (y b).val
  rw [hoff b]; omega

/-- A store of the whole buffer leaves what it stored. -/
theorem read_stored {s : Shape} {e : EltTy} (v : View sig .tc .vmem s e) (f : v.ty.Contents (Elt F)) (off : Fin s.rank → ℕ)
    (hoff : ∀ b, off b = 0) (inb) (w : Vec F s e) (ps : List (View.Piece (Elt F) s e)) :
    v.read (Elt F) (v.writes (Elt F) f (⟨Rect.unit (s := s) off s.size inb, w⟩ :: ps)) = w := by
  funext y
  have hemb : (Rect.unit (s := s) off s.size inb).emb y = y := funext fun b => Fin.ext (by
    show off b + 1 * (y b).val = (y b).val
    rw [hoff b]; omega)
  have := View.read_writes_cons_emb v f (Rect.unit (s := s) off s.size inb) w ps y
  rw [hemb] at this
  exact this

/-- The two stores into the first scratch leave the two weights side by side. -/
theorem read_wgu (a : Memref sig .tc .vmem S2048x1280 .bf16) (f : a.view.ty.Contents (Elt F)) (x1 x2 : Vec F S1x2048x640 .f32) :
    a.view.read (Elt F) (a.view.writes (Elt F) f [⟨Rect.unit (s := S2048x1280) ![0, 640] S2048x640.size inb_S2048x1280_S2048x640_0_640, k0_pay2 x2⟩,
        ⟨Rect.unit (s := S2048x1280) ![0, 0] S2048x640.size inb_S2048x1280_S2048x640_0_0, k0_pay1 x1⟩]) = wguOf x1 x2 := by
  funext y
  have h1 : (y 1).val < 1280 := (y 1).isLt
  unfold wguOf
  split
  · rename_i h
    have e : y = (Rect.unit (s := S2048x1280) ![0, 0] S2048x640.size inb_S2048x1280_S2048x640_0_0).emb
        (fun a => match a with | ⟨0, _⟩ => ⟨(y 0).val, (y 0).isLt⟩ | ⟨1, _⟩ => ⟨(y 1).val, h⟩) := by
      funext a
      refine Fin.ext ?_
      fin_cases a
      · show (y 0).val = 0 + 1 * (y 0).val; omega
      · show (y 1).val = 0 + 1 * (y 1).val; omega
    rw [View.read_writes_cons_miss]
    swap
    · exact Rect.not_mem_set_of_axis _ y 1 640 640 rfl rfl rfl (.inl h)
    conv_lhs => rw [e]
    exact View.read_writes_cons_emb a.view f _ _ [] _
  · rename_i h
    have e : y = (Rect.unit (s := S2048x1280) ![0, 640] S2048x640.size inb_S2048x1280_S2048x640_0_640).emb
        (fun a => match a with | ⟨0, _⟩ => ⟨(y 0).val, (y 0).isLt⟩ | ⟨1, _⟩ => ⟨(y 1).val - 640, by show (y 1).val - 640 < 640; omega⟩) := by
      funext a
      refine Fin.ext ?_
      fin_cases a
      · show (y 0).val = 0 + 1 * (y 0).val; omega
      · show (y 1).val = 640 + 1 * ((y 1).val - 640); omega
    conv_lhs => rw [e]
    exact View.read_writes_cons_emb a.view f _ _ _ _

end Cert.Kernel2Ideal.Ffn
end
-- ==== Proof.FfnRuns.lean ====
module

public import proofs.«01_k».proof.Proof.FfnBody

/-!
# The expert feed-forward: the runs of its body

One run for each course the body takes: a used tile that brings its weights in, a used tile that keeps
the weights of the tile before, and a tile that is not used.
-/

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg3 : Memref sig .tc .vmem S256x2048 .f32) (harg3 : arg3.IsWhole) (arg4 : Memref sig .tc .vmem S1x2048x640 .f32) (harg4 : arg4.IsWhole)
  (arg5 : Memref sig .tc .vmem S1x2048x640 .f32) (harg5 : arg5.IsWhole) (arg6 : Memref sig .tc .vmem S1x640x2048 .f32) (harg6 : arg6.IsWhole)
  (arg7 : Memref sig .tc .vmem S256x2048 .f32) (harg7 : arg7.IsWhole)
  (T0 : S144.Idx → Elt F .i32) (T1 : S1.Idx → Elt F .i32)

/-- What the body holds: its blocks, the tables' words, the output block at `o` and the scratches at `a` and `b`. -/
def holds (x0 : Vec F S256x2048 .f32) (x1 x2 : Vec F S1x2048x640 .f32) (x3 : Vec F S1x640x2048 .f32)
    (o : sProp 𝕄) (a b : sProp 𝕄) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3
    ∗ (tblE.view.loc (c : Thread nD τ) ↦{fullShare.right} T0) ∗ (tblN.view.loc (c : Thread nD τ) ↦{fullShare.right} T1) ∗ o ∗ a ∗ b)

/-- The body on these buffers. -/
abbrev body : Prog (TpuEff nD τ sig (Elt F) Λ₀ .tc) PUnit :=
  cc0_moe i tblE (Memref.isWhole_whole _) tblN (Memref.isWhole_whole _) arg3 harg3 arg4 harg4 arg5 harg5 arg6 harg6 arg7 harg7 scrA (Memref.isWhole_whole _) scrB (Memref.isWhole_whole _)

set_option maxHeartbeats 4000000 in
/-- A used tile that brings its weights in: the scratches end at its expert’s weights, the output block at what it computes from them. -/
theorem run_new (hc0 : reload i T0 T1) (h2 : k0_cond2 i (nUsed (F := F) T1) = 1#1) (h3 : ¬k0_cond3 i (nUsed (F := F) T1) = 1#1)
    (x0 : Vec F S256x2048 .f32) (x1 x2 : Vec F S1x2048x640 .f32) (x3 : Vec F S1x640x2048 .f32) (K : PUnit → sProp 𝕄) :
    iprop(holds c arg3 arg4 arg5 arg6 T0 T1 x0 x1 x2 x3 iprop(∃ d, owns (c : Thread nD τ) arg7 fullShare d)
          iprop(∃ d, owns (c : Thread nD τ) scrA fullShare d) iprop(∃ d, owns (c : Thread nD τ) scrB fullShare d)
        ∗ (holds c arg3 arg4 arg5 arg6 T0 T1 x0 x1 x2 x3 (owns (c : Thread nD τ) arg7 fullShare (k0_pay4 x0 (wguOf x1 x2) (k0_pay3 x3)))
          (owns (c : Thread nD τ) scrA fullShare (wguOf x1 x2)) (owns (c : Thread nD τ) scrB fullShare (k0_pay3 x3)) -∗ K ⟨⟩))
      ⊢ wp frame (wpE (defs₀ (F := F)) Variants.none c none) Set.univ (body i arg3 harg3 arg4 harg4 arg5 harg5 arg6 harg6 arg7 harg7) K := by
  unfold holds body
  rw [cc0_moe_eq_skeleton]; unfold cc0_moe_skel
  unfold owns
  have hS0 : scrA.IsWhole := Memref.isWhole_whole _
  have hS1 : scrB.IsWhole := Memref.isWhole_whole _
  have hT0 : tblE.IsWhole := Memref.isWhole_whole _
  have hT1 : tblN.IsWhole := Memref.isWhole_whole _
  iintro ⟨⟨⟨%f0, %hf0, H0⟩, ⟨%f1, %hf1, H1⟩, ⟨%f2, %hf2, H2⟩, ⟨%f3, %hf3, H3⟩, HT0, HT1, ⟨%d4, %f4, -, HO⟩, ⟨%da, %fa, -, HS0⟩, ⟨%db, %fb, -, HS1⟩⟩, Hk⟩
  obtain rfl := harg3.eq_unread hf0; obtain rfl := harg4.eq_unread hf1; obtain rfl := harg5.eq_unread hf2; obtain rfl := harg6.eq_unread hf3
  sl_exec! (disch := first | (guard_target = (Scalar.cmpi CmpIPredicate.ne _ _ = _); exact hc0) | (guard_target = (k0_cond2 _ _ = _); exact h2) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [HO]
  · iexists _; isplitr; swap; · iexact HO
    ipureintro
    sl_unfold_run_names
    have q0 := load_whole arg3 harg3 x0 ![0, 0] (by decide) inb_S256x2048_S256x2048_0_0
    have q1 := load_whole arg4 harg4 x1 ![0, 0, 0] (by decide) inb_S1x2048x640_S1x2048x640_0_0_0
    have q2 := load_whole arg5 harg5 x2 ![0, 0, 0] (by decide) inb_S1x2048x640_S1x2048x640_0_0_0
    have q3 := load_whole arg6 harg6 x3 ![0, 0, 0] (by decide) inb_S1x640x2048_S1x640x2048_0_0_0
    rw [q0, q1, q2, q3]
    refine (read_stored _ _ _ (by decide) _ _ _).trans ?_
    unfold View.readCov
    exact congrArg₂ (k0_pay4 x0) (load_read scrA _ _ (read_wgu scrA _ x1 x2) ![0, 0] (by decide) inb_S2048x1280_S2048x1280_0_0)
      (load_read scrB _ _ (read_stored scrB.view _ ![0, 0] (by decide) _ _ []) ![0, 0] (by decide) inb_S640x2048_S640x2048_0_0)
  isplitl [HS0]
  · iexists _; isplitr; swap; · iexact HS0
    ipureintro
    sl_unfold_run_names
    have q0 := load_whole arg3 harg3 x0 ![0, 0] (by decide) inb_S256x2048_S256x2048_0_0
    have q1 := load_whole arg4 harg4 x1 ![0, 0, 0] (by decide) inb_S1x2048x640_S1x2048x640_0_0_0
    have q2 := load_whole arg5 harg5 x2 ![0, 0, 0] (by decide) inb_S1x2048x640_S1x2048x640_0_0_0
    have q3 := load_whole arg6 harg6 x3 ![0, 0, 0] (by decide) inb_S1x640x2048_S1x640x2048_0_0_0
    rw [q1, q2]
    exact read_wgu scrA _ x1 x2
  iexists _; isplitr; swap; · iexact HS1
  ipureintro
  sl_unfold_run_names
  have q0 := load_whole arg3 harg3 x0 ![0, 0] (by decide) inb_S256x2048_S256x2048_0_0
  have q1 := load_whole arg4 harg4 x1 ![0, 0, 0] (by decide) inb_S1x2048x640_S1x2048x640_0_0_0
  have q2 := load_whole arg5 harg5 x2 ![0, 0, 0] (by decide) inb_S1x2048x640_S1x2048x640_0_0_0
  have q3 := load_whole arg6 harg6 x3 ![0, 0, 0] (by decide) inb_S1x640x2048_S1x640x2048_0_0_0
  rw [q3]
  exact read_stored _ _ _ (by decide) _ _ _

set_option maxHeartbeats 4000000 in
/-- A used tile that keeps the weights of the tile before. -/
theorem run_kept (hc0 : ¬reload i T0 T1) (h2 : k0_cond2 i (nUsed (F := F) T1) = 1#1) (h3 : ¬k0_cond3 i (nUsed (F := F) T1) = 1#1)
    (x0 : Vec F S256x2048 .f32) (x1 x2 : Vec F S1x2048x640 .f32) (x3 : Vec F S1x640x2048 .f32) (xa : Vec F S2048x1280 .bf16) (xb : Vec F S640x2048 .bf16) (K : PUnit → sProp 𝕄) :
    iprop(holds c arg3 arg4 arg5 arg6 T0 T1 x0 x1 x2 x3 iprop(∃ d, owns (c : Thread nD τ) arg7 fullShare d)
          (owns (c : Thread nD τ) scrA fullShare xa) (owns (c : Thread nD τ) scrB fullShare xb)
        ∗ (holds c arg3 arg4 arg5 arg6 T0 T1 x0 x1 x2 x3 (owns (c : Thread nD τ) arg7 fullShare (k0_pay4 x0 xa xb))
          (owns (c : Thread nD τ) scrA fullShare xa) (owns (c : Thread nD τ) scrB fullShare xb) -∗ K ⟨⟩))
      ⊢ wp frame (wpE (defs₀ (F := F)) Variants.none c none) Set.univ (body i arg3 harg3 arg4 harg4 arg5 harg5 arg6 harg6 arg7 harg7) K := by
  unfold holds body
  rw [cc0_moe_eq_skeleton]; unfold cc0_moe_skel
  unfold owns
  have hS0 : scrA.IsWhole := Memref.isWhole_whole _
  have hS1 : scrB.IsWhole := Memref.isWhole_whole _
  have hT0 : tblE.IsWhole := Memref.isWhole_whole _
  have hT1 : tblN.IsWhole := Memref.isWhole_whole _
  iintro ⟨⟨⟨%f0, %hf0, H0⟩, ⟨%f1, %hf1, H1⟩, ⟨%f2, %hf2, H2⟩, ⟨%f3, %hf3, H3⟩, HT0, HT1, ⟨%d4, %f4, -, HO⟩, ⟨%fa, %hfa, HS0⟩, ⟨%fb, %hfb, HS1⟩⟩, Hk⟩
  obtain rfl := harg3.eq_unread hf0; obtain rfl := harg4.eq_unread hf1; obtain rfl := harg5.eq_unread hf2; obtain rfl := harg6.eq_unread hf3
  sl_exec! (disch := first | (guard_target = ¬(Scalar.cmpi CmpIPredicate.ne _ _ = _); exact hc0) | (guard_target = (k0_cond2 _ _ = _); exact h2) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [HO]
  · iexists _; isplitr; swap; · iexact HO
    ipureintro
    sl_unfold_run_names
    have q0 := load_whole arg3 harg3 x0 ![0, 0] (by decide) inb_S256x2048_S256x2048_0_0
    have q1 := load_whole arg4 harg4 x1 ![0, 0, 0] (by decide) inb_S1x2048x640_S1x2048x640_0_0_0
    have q2 := load_whole arg5 harg5 x2 ![0, 0, 0] (by decide) inb_S1x2048x640_S1x2048x640_0_0_0
    have q3 := load_whole arg6 harg6 x3 ![0, 0, 0] (by decide) inb_S1x640x2048_S1x640x2048_0_0_0
    rw [q0]
    refine (read_stored _ _ _ (by decide) _ _ _).trans ?_
    rw [load_read scrA fa xa hfa ![0, 0] (by decide) inb_S2048x1280_S2048x1280_0_0, load_read scrB fb xb hfb ![0, 0] (by decide) inb_S640x2048_S640x2048_0_0]
  isplitl [HS0]
  · iexists _; isplitr; swap; · iexact HS0
    ipureintro; exact hfa
  iexists _; isplitr; swap; · iexact HS1
  ipureintro; exact hfb

set_option maxHeartbeats 4000000 in
/-- A tile that is not used: zeros. -/
theorem run_unused (hc0 : ¬reload i T0 T1) (h2 : ¬k0_cond2 i (nUsed (F := F) T1) = 1#1) (h3 : k0_cond3 i (nUsed (F := F) T1) = 1#1)
    (x0 : Vec F S256x2048 .f32) (x1 x2 : Vec F S1x2048x640 .f32) (x3 : Vec F S1x640x2048 .f32) (K : PUnit → sProp 𝕄) :
    iprop(holds c arg3 arg4 arg5 arg6 T0 T1 x0 x1 x2 x3 iprop(∃ d, owns (c : Thread nD τ) arg7 fullShare d)
          iprop(∃ d, owns (c : Thread nD τ) scrA fullShare d) iprop(∃ d, owns (c : Thread nD τ) scrB fullShare d)
        ∗ (holds c arg3 arg4 arg5 arg6 T0 T1 x0 x1 x2 x3 (owns (c : Thread nD τ) arg7 fullShare (k0_pay5 (F := F)))
          iprop(∃ d, owns (c : Thread nD τ) scrA fullShare d) iprop(∃ d, owns (c : Thread nD τ) scrB fullShare d) -∗ K ⟨⟩))
      ⊢ wp frame (wpE (defs₀ (F := F)) Variants.none c none) Set.univ (body i arg3 harg3 arg4 harg4 arg5 harg5 arg6 harg6 arg7 harg7) K := by
  unfold holds body
  rw [cc0_moe_eq_skeleton]; unfold cc0_moe_skel
  unfold owns
  have hS0 : scrA.IsWhole := Memref.isWhole_whole _
  have hS1 : scrB.IsWhole := Memref.isWhole_whole _
  have hT0 : tblE.IsWhole := Memref.isWhole_whole _
  have hT1 : tblN.IsWhole := Memref.isWhole_whole _
  iintro ⟨⟨⟨%f0, %hf0, H0⟩, ⟨%f1, %hf1, H1⟩, ⟨%f2, %hf2, H2⟩, ⟨%f3, %hf3, H3⟩, HT0, HT1, ⟨%d4, %f4, -, HO⟩, ⟨%da, %fa, -, HS0⟩, ⟨%db, %fb, -, HS1⟩⟩, Hk⟩
  obtain rfl := harg3.eq_unread hf0; obtain rfl := harg4.eq_unread hf1; obtain rfl := harg5.eq_unread hf2; obtain rfl := harg6.eq_unread hf3
  sl_exec! (disch := first | (guard_target = ¬(Scalar.cmpi CmpIPredicate.ne _ _ = _); exact hc0) | (guard_target = ¬(k0_cond2 _ _ = _); exact h2) | (guard_target = (k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [HO]
  · iexists _; isplitr; swap; · iexact HO
    ipureintro
    exact read_stored _ _ _ (by decide) _ _ _
  isplitl [HS0]
  · iexists _, _; isplitr; swap; · iexact HS0
    ipureintro; rfl
  iexists _, _; isplitr; swap; · iexact HS1
  ipureintro; rfl

end Cert.Kernel2Ideal.Ffn
end
-- ==== Proof.FfnTables.lean ====
module

public import proofs.«01_k».proof.Proof.FfnRuns
public import Idealize.ShloMosaic.Lib.ValueIdx
public import Idealize.ShloMosaic.Lib.WordCmp
public import Idealize.ShloMosaic.Lib.Pipeline.TableIdle

/-!
# The expert feed-forward: the words of the tables, and the launch at them

Which tile is used, and when a tile's weights are brought in, as statements over the words of the two
tables. The launch is taken at the tables' contents in the memory it starts from, all experts in range,
so that every tile's weights are inside their arrays.
-/

@[expose] public section

set_option backward.proofsInPublic true
set_option maxRecDepth 16384

noncomputable section

namespace Cert.Kernel2Ideal.Ffn

open Cert.Kernel2Ideal Cert.Kernel2Ideal.Gen
open Idealize.ShloMosaic Idealize.ShloMosaic.TcCoe Idealize.ShloMosaic.Tactic Idealize.ShloMosaic.ValueIdx
open Idealize.SL.Sem

variable {F : FTy → Type} [FloatOps F]

/-! ## Words -/

/-- Tile `n` is one of the tiles used. -/
def used (T1 : S1.Idx → Elt F .i32) (n : ℕ) : Prop := (n : ℤ) < BitVec.toInt (n := 32) (T1 (ix1 0))

/-- The expert of tile `n`. -/
def expert (T0 : S144.Idx → Elt F .i32) (n : Fin 144) : BitVec 32 := T0 (ix1 n)

theorem used_prev (T1 : S1.Idx → Elt F .i32) (n : ℕ) (h : used (F := F) T1 n) : used (F := F) T1 (n - 1) := by
  unfold used at *; omega

theorem nUsed_eq (T1 : S1.Idx → Elt F .i32) : nUsed (F := F) T1 = T1 (ix1 0) :=
  congrArg T1 (funext fun a => match a with | ⟨0, _⟩ => Fin.ext (Nat.lt_one_iff.1 (Fin.isLt _)))

/-- The tile before, the first tile before itself. -/
theorem off2_eq : ∀ i : grid0.Coords, k0_off2 i = ![(i 0).val - 1] := by decide +kernel

theorem eThis_eq (i : grid0.Coords) (T0 : S144.Idx → Elt F .i32) (n : Fin 144) (hn : (i 0).val = n.val) : eThis (F := F) i T0 = expert (F := F) T0 n := by
  refine congrArg T0 (funext fun a => Fin.ext ?_)
  match a with
  | ⟨0, _⟩ =>
    show k0_off1 i 0 + 1 * 0 = n.val
    rw [k0_off1_eq]; exact hn

theorem ePrev_eq (i : grid0.Coords) (T0 : S144.Idx → Elt F .i32) (n : Fin 144) (hn : (i 0).val - 1 = n.val) : ePrev (F := F) i T0 = expert (F := F) T0 n := by
  refine congrArg T0 (funext fun a => Fin.ext ?_)
  match a with
  | ⟨0, _⟩ =>
    show k0_off2 i 0 + 1 * 0 = n.val
    rw [off2_eq]; exact hn

theorem slt_iff (n : ℕ) (hn : n < 144) (v : BitVec 32) : Scalar.cmpi .slt (BitVec.ofNat 32 n) v = 1#1 ↔ (n : ℤ) < v.toInt := by
  show IntOp.cmpi .slt _ _ = _ ↔ _
  rw [WordCmp.cmpi_slt_eq, WordCmp.ofBool_decide_eq_one_iff, WordCmp.toInt_ofNat_of_lt (by norm_num; omega)]

theorem cond2_bit (b : BitVec 1) : Scalar.cmpi .ne (Scalar.extui b : BitVec 32) 0#32 = 1#1 ↔ b = 1#1 := by
  revert b; decide

theorem cond3_bit (b : BitVec 1) : Scalar.cmpi .ne (Scalar.extui (Scalar.xori b 1#1) : BitVec 32) 0#32 = 1#1 ↔ ¬ b = 1#1 := by
  revert b; decide

theorem reload_bit (a b c : BitVec 1) : Scalar.cmpi .ne (Scalar.extui (Scalar.andi a (Scalar.ori b c)) : BitVec 32) 0#32 = 1#1 ↔ a = 1#1 ∧ (b = 1#1 ∨ c = 1#1) := by
  revert a b c; decide

/-- The body computes exactly where the tile is used, -/
theorem cond2_iff (i : grid0.Coords) (T1 : S1.Idx → Elt F .i32) : k0_cond2 i (nUsed (F := F) T1) = 1#1 ↔ used (F := F) T1 (i 0).val := by
  rw [nUsed_eq]
  exact (cond2_bit _).trans (slt_iff _ (i 0).isLt _)

/-- stores zeros exactly where it is not, -/
theorem cond3_iff (i : grid0.Coords) (T1 : S1.Idx → Elt F .i32) : k0_cond3 i (nUsed (F := F) T1) = 1#1 ↔ ¬used (F := F) T1 (i 0).val := by
  rw [nUsed_eq]
  exact (cond3_bit _).trans (slt_iff _ (i 0).isLt _).not

/-- and brings weights in where it is used and is the first tile or has another expert than the tile before. -/
theorem reload_iff (i : grid0.Coords) (T0 : S144.Idx → Elt F .i32) (T1 : S1.Idx → Elt F .i32) :
    reload (F := F) i T0 T1 ↔ used (F := F) T1 (i 0).val ∧ ((i 0).val = 0 ∨ eThis (F := F) i T0 ≠ ePrev (F := F) i T0) := by
  unfold reload
  refine (reload_bit _ _ _).trans (and_congr ?_ (or_congr ?_ ?_))
  · rw [nUsed_eq]; exact slt_iff _ (i 0).isLt _
  · have h0 : (i 0).val < 144 := (i 0).isLt
    show IntOp.cmpi .eq (BitVec.ofNat 32 _) (BitVec.ofNat 32 0) = _ ↔ _
    rw [WordCmp.cmpi_eq_ofNat_eq_one_iff (by norm_num; omega) (by norm_num)]
  · show IntOp.cmpi .ne _ _ = _ ↔ _
    rw [WordCmp.cmpi_ne_eq, WordCmp.ofBool_decide_eq_one_iff]

/-- Whatever a word says, the body either computes or stores zeros. -/
theorem cond_total (i : grid0.Coords) (v : BitVec 32) : (!(k0_cond2 i v == 1#1) && !(k0_cond3 i v == 1#1)) = false := by
  unfold k0_cond2 k0_cond3
  dsimp only
  generalize Scalar.cmpi .slt (BitVec.ofNat 32 (i 0).val) v = b
  revert b; decide

/-! ## The launch at the tables -/

variable (m : (ℓ : Loc nD τ sig) → Buf (Elt F) ℓ)

/-- The one device. -/
def dev : Dev nD := ⟨0, by decide⟩

theorem dev_eq (c : Dev nD) : c = dev := Fin.ext (Nat.lt_one_iff.1 c.isLt)

/-- The tables' words at the start. -/
abbrev tE : S144.Idx → Elt F .i32 := m ((dev : Thread nD τ).loc main_arg0)
abbrev tN : S1.Idx → Elt F .i32 := m ((dev : Thread nD τ).loc main_arg1)

/-- Every tile's expert is one of the sixteen. -/
def InRange : Prop := ∀ j : S144.Idx, BitVec.toNat (w := 32) (tE m j) < 16

/-- The two tables as the launch takes them. -/
def tabs : pre0.Contents (Elt F) := fun | ⟨0, _⟩ => tE m | ⟨1, _⟩ => tN m | ⟨_ + 2, h⟩ => absurd h (by simp)

variable (hr : InRange m)

include hr in
/-- With the experts in range every tile's weights are inside their arrays. -/
theorem tabs_ok : ok0 (F := F) (tabs m) := by
  refine ⟨fun i => ⟨fun a => ?_, .inl rfl⟩, fun i => ⟨fun a => ?_, .inl rfl⟩, fun i => ⟨fun a => ?_, .inl rfl⟩⟩
  · match a with
    | ⟨0, _⟩ => exact (Nat.mul_one _).le.trans (hr _)
    | ⟨1, _⟩ => exact Nat.le_of_eq rfl
    | ⟨2, _⟩ => exact Nat.le_of_eq rfl
  · match a with
    | ⟨0, _⟩ => exact (Nat.mul_one _).le.trans (hr _)
    | ⟨1, _⟩ => exact Nat.le_of_eq rfl
    | ⟨2, _⟩ => exact Nat.le_of_eq rfl
  · match a with
    | ⟨0, _⟩ => exact (Nat.mul_one _).le.trans (hr _)
    | ⟨1, _⟩ => exact Nat.le_of_eq rfl
    | ⟨2, _⟩ => exact Nat.le_of_eq rfl

/-- The tables, admissible; the launch at them. -/
def adm : (pcfg0 (F := F)).Adm := ⟨tabs m, tabs_ok m hr⟩
abbrev cfgA : Pipeline.Cfg sig Λ₀ := cfg0 (F := F) (adm m hr)
abbrev pcs : Fin 1 → Pipeline.Cfg sig Λ₀ := Pipeline.pin (pcfgs (F := F)) fun _ => adm m hr

/-- A point's tile. -/
abbrev crd (t : Fin (cfgA m hr).N) : (cfgA m hr).grid.Coords := (cfgA m hr).grid.coords t

theorem crd_val (t : Fin (cfgA m hr).N) : ((crd m hr t) 0).val = t.val :=
  (by decide +kernel : ∀ t : Fin grid0.N, ((grid0.coords t) 0).val = t.val) t

theorem pt_lt (t : Fin (cfgA m hr).N) : t.val < 144 := lt_of_lt_of_eq t.isLt N_0

/-- A point as a tile. -/
def tile (t : Fin (cfgA m hr).N) : Fin 144 := ⟨t.val, pt_lt m hr t⟩

/-- Every point writes its block back. -/
theorem flushes (t : Fin (cfgA m hr).N) : ((cfgA m hr).win (4 : Fin 5)).flush t = true :=
  (by decide +kernel : ∀ t : Fin grid0.N, Pipeline.Window.flushOf grid0 true cc0_transform_4 t = true) t

/-- The body stores its output block at every point. -/
theorem busy (t : Fin (cfgA m hr).N) : (cfgA m hr).idle (4 : Fin 5) ((cfgA m hr).grid.coords t) = false := cond_total _ _

/-- The tile's buffers. -/
abbrev ms0_0 (t : Fin (cfgA m hr).N) : Memref sig .tc .vmem S256x2048 .f32 := spec0_0.stage ((cfgA m hr).slots t (0 : Fin 5))
abbrev hs0_0 (t : Fin (cfgA m hr).N) : (ms0_0 m hr t).IsWhole := hstage0_0 (((cfgA m hr).slots t (0 : Fin 5)).cast nbuf0_0)
abbrev ms0_1 (t : Fin (cfgA m hr).N) : Memref sig .tc .vmem S1x2048x640 .f32 := spec0_1.stage ((cfgA m hr).slots t (1 : Fin 5))
abbrev hs0_1 (t : Fin (cfgA m hr).N) : (ms0_1 m hr t).IsWhole := hstage0_1 (((cfgA m hr).slots t (1 : Fin 5)).cast nbuf0_1)
abbrev ms0_2 (t : Fin (cfgA m hr).N) : Memref sig .tc .vmem S1x2048x640 .f32 := spec0_2.stage ((cfgA m hr).slots t (2 : Fin 5))
abbrev hs0_2 (t : Fin (cfgA m hr).N) : (ms0_2 m hr t).IsWhole := hstage0_2 (((cfgA m hr).slots t (2 : Fin 5)).cast nbuf0_2)
abbrev ms0_3 (t : Fin (cfgA m hr).N) : Memref sig .tc .vmem S1x640x2048 .f32 := spec0_3.stage ((cfgA m hr).slots t (3 : Fin 5))
abbrev hs0_3 (t : Fin (cfgA m hr).N) : (ms0_3 m hr t).IsWhole := hstage0_3 (((cfgA m hr).slots t (3 : Fin 5)).cast nbuf0_3)
abbrev ms0_4 (t : Fin (cfgA m hr).N) : Memref sig .tc .vmem S256x2048 .f32 := spec0_4.stage ((cfgA m hr).slots t (4 : Fin 5))
abbrev hs0_4 (t : Fin (cfgA m hr).N) : (ms0_4 m hr t).IsWhole := hstage0_4 (((cfgA m hr).slots t (4 : Fin 5)).cast nbuf0_4)

/-- A window's block at a point, read off its array at the start. -/
def iblk (c : Dev nD) (w : Fin (cfgA m hr).W) (t : Fin (cfgA m hr).N) : (((cfgA m hr).win w).xblock (crd m hr t)).Idx → Elt F ((cfgA m hr).win w).elt :=
  (((cfgA m hr).win w).blk t).view.read (Elt F) (m (((cfgA m hr).win w).arr.view.loc (c : Thread nD τ)))

/-- The weights' blocks are those of the tile's expert: two tiles of one expert read the same. -/
theorem index1 (t : Fin (cfgA m hr).N) : ((cfgA m hr).win (1 : Fin 5)).index t = ![(expert (F := F) (tE m) (tile m hr t)).toNat, 0, 0] := by
  refine congrArg (fun w : BitVec 32 => ![w.toNat, 0, 0]) ?_
  exact eThis_eq (F := F) (crd m hr t) (tE m) (tile m hr t) (crd_val m hr t)
theorem index2 (t : Fin (cfgA m hr).N) : ((cfgA m hr).win (2 : Fin 5)).index t = ![(expert (F := F) (tE m) (tile m hr t)).toNat, 0, 0] := index1 m hr t
theorem index3 (t : Fin (cfgA m hr).N) : ((cfgA m hr).win (3 : Fin 5)).index t = ![(expert (F := F) (tE m) (tile m hr t)).toNat, 0, 0] := index1 m hr t
theorem index0 (t : Fin (cfgA m hr).N) : ((cfgA m hr).win (0 : Fin 5)).index t = ![t.val, 0] :=
  (by decide +kernel : ∀ t : Fin grid0.N, cc0_transform_0 (grid0.coords t) = ![t.val, 0]) t
theorem index4 (t : Fin (cfgA m hr).N) : ((cfgA m hr).win (4 : Fin 5)).index t = ![t.val, 0] :=
  (by decide +kernel : ∀ t : Fin grid0.N, cc0_transform_4 (grid0.coords t) = ![t.val, 0]) t

end Cert.Kernel2Ideal.Ffn
end
-- ==== Proof.FfnLaunch.lean ====
module

public import proofs.«01_k».proof.Proof.FfnTables
public import Idealize.ShloMosaic.Lib.Claim
public import Idealize.ShloMosaic.Lib.Pipeline.Quiescent
public import Idealize.ShloMosaic.Lib.Pipeline.Value
public import Idealize.ShloMosaic.Lib.Pipeline.ValueKit

/-!
# The expert feed-forward: the run of the whole launch

The state carried from tile to tile is the two scratches: after a used tile they hold the weights of its
expert, since it either brought them in or found there those of the tile before, of the same expert.
With it the three runs of the body give the body's obligation at every point, and the launch ends with
the result at `G`, block by block what the points computed.
-/

@[expose] public section

set_option backward.proofsInPublic true
set_option maxRecDepth 16384

noncomputable section

namespace Cert.Kernel2Ideal.Ffn

open Cert.Kernel2Ideal Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The launch's own share of the ghost state. -/
abbrev EP : Emb (UR sig nD τ) 𝕄 := emb₁

instance (T1 : S1.Idx → Elt F .i32) (n : ℕ) : Decidable (used (F := F) T1 n) := by unfold used; infer_instance

variable (m : (ℓ : Loc nD τ sig) → Buf (Elt F) ℓ) (ρ : Dev nD → PrngReg) (hr : InRange m)

/-- The weights of a tile's expert, as the scratches hold them. -/
def wA (c : Dev nD) (t : Fin (cfgA m hr).N) : Vec F S2048x1280 .bf16 := wguOf (iblk m hr c (1 : Fin 5) t) (iblk m hr c (2 : Fin 5) t)
def wB (c : Dev nD) (t : Fin (cfgA m hr).N) : Vec F S640x2048 .bf16 := k0_pay3 (iblk m hr c (3 : Fin 5) t)

/-- The block of the result a tile leaves. -/
def outAt (c : Dev nD) (t : Fin (cfgA m hr).N) : Vec F S256x2048 .f32 :=
  if used (F := F) (tN m) t.val then k0_pay4 (iblk m hr c (0 : Fin 5) t) (wA m hr c t) (wB m hr c t) else k0_pay5 (F := F)

theorem iblk1_eq (c : Dev nD) (t t' : Fin (cfgA m hr).N) (h : expert (F := F) (tE m) (tile m hr t) = expert (F := F) (tE m) (tile m hr t')) :
    iblk m hr c (1 : Fin 5) t = iblk m hr c (1 : Fin 5) t' := by
  have e : ((cfgA m hr).win (1 : Fin 5)).index t = ((cfgA m hr).win (1 : Fin 5)).index t' := by rw [index1, index1, h]
  funext y
  refine congrArg (m _) (funext fun a => Fin.ext ?_)
  exact congrArg (fun z => z + 1 * (y a).val) (congrArg (fun z => z * _) (congrFun e a))
theorem iblk2_eq (c : Dev nD) (t t' : Fin (cfgA m hr).N) (h : expert (F := F) (tE m) (tile m hr t) = expert (F := F) (tE m) (tile m hr t')) :
    iblk m hr c (2 : Fin 5) t = iblk m hr c (2 : Fin 5) t' := by
  have e : ((cfgA m hr).win (2 : Fin 5)).index t = ((cfgA m hr).win (2 : Fin 5)).index t' := by rw [index2, index2, h]
  funext y
  refine congrArg (m _) (funext fun a => Fin.ext ?_)
  exact congrArg (fun z => z + 1 * (y a).val) (congrArg (fun z => z * _) (congrFun e a))
theorem iblk3_eq (c : Dev nD) (t t' : Fin (cfgA m hr).N) (h : expert (F := F) (tE m) (tile m hr t) = expert (F := F) (tE m) (tile m hr t')) :
    iblk m hr c (3 : Fin 5) t = iblk m hr c (3 : Fin 5) t' := by
  have e : ((cfgA m hr).win (3 : Fin 5)).index t = ((cfgA m hr).win (3 : Fin 5)).index t' := by rw [index3, index3, h]
  funext y
  refine congrArg (m _) (funext fun a => Fin.ext ?_)
  exact congrArg (fun z => z + 1 * (y a).val) (congrArg (fun z => z * _) (congrFun e a))

/-- The scratches before position `n`: after a used tile at its expert's weights, else at anything. -/
def scr (c : Dev nD) : (n : ℕ) → n ≤ (cfgA m hr).N → sProp 𝕄
  | 0, _ => iprop((∃ d, owns (c : Thread nD τ) (scrA) fullShare d) ∗ (∃ d, owns (c : Thread nD τ) (scrB) fullShare d))
  | n + 1, hn => if used (F := F) (tN m) n then iprop(owns (c : Thread nD τ) scrA fullShare (wA m hr c ⟨n, hn⟩) ∗ owns (c : Thread nD τ) scrB fullShare (wB m hr c ⟨n, hn⟩))
    else iprop((∃ d, owns (c : Thread nD τ) (scrA) fullShare d) ∗ (∃ d, owns (c : Thread nD τ) (scrB) fullShare d))

/-- What they hold can be forgotten. -/
theorem scr_forget (c : Dev nD) (n : ℕ) (h : n ≤ (cfgA m hr).N) :
    scr m hr c n h ⊢ iprop((∃ d, owns (c : Thread nD τ) (scrA) fullShare d) ∗ (∃ d, owns (c : Thread nD τ) (scrB) fullShare d)) := by
  cases n with
  | zero => exact Idealize.SL.BI.Entails.refl _
  | succ n =>
    show (if used (F := F) (tN m) n then _ else _) ⊢ _
    by_cases hu : used (F := F) (tN m) n
    · rw [if_pos hu]
      iintro ⟨HA, HB⟩
      isplitl [HA]; · iexists _; iexact HA
      iexists _; iexact HB
    · rw [if_neg hu]

/-- A used tile that brings nothing in finds its expert's weights. -/
theorem scr_kept (c : Dev nD) (t : Fin (cfgA m hr).N) (hu : used (F := F) (tN m) t.val) (hk : ¬reload (F := F) (crd m hr t) (tE m) (tN m)) (h : t.val ≤ (cfgA m hr).N) :
    scr m hr c t.val h = iprop(owns (c : Thread nD τ) scrA fullShare (wA m hr c t) ∗ owns (c : Thread nD τ) scrB fullShare (wB m hr c t)) := by
  rw [reload_iff, crd_val] at hk
  obtain ⟨n, hn⟩ := t
  cases n with
  | zero => exact absurd ⟨hu, .inl rfl⟩ hk
  | succ n =>
    have hn' : n < (cfgA m hr).N := Nat.lt_of_succ_lt hn
    have he : expert (F := F) (tE m) (tile m hr ⟨n + 1, hn⟩) = expert (F := F) (tE m) (tile m hr ⟨n, hn'⟩) := by
      by_contra hne
      refine hk ⟨hu, .inr fun h' => hne ?_⟩
      rw [eThis_eq _ _ (tile m hr ⟨n + 1, hn⟩) (crd_val m hr ⟨n + 1, hn⟩), ePrev_eq _ _ (tile m hr ⟨n, hn'⟩) (by rw [crd_val m hr ⟨n + 1, hn⟩]; rfl)] at h'
      exact h'
    show (if used (F := F) (tN m) n then _ else _) = _
    have hp : used (F := F) (tN m) n := used_prev (tN m) (n + 1) hu
    rw [if_pos hp]
    unfold wA wB
    rw [iblk1_eq m hr c _ _ he, iblk2_eq m hr c _ _ he, iblk3_eq m hr c _ _ he]

/-- The two tables, a share of each. -/
def tbls (c : Dev nD) : sProp 𝕄 :=
  iprop((tblE.view.loc (c : Thread nD τ) ↦{fullShare.right} tE m) ∗ (tblN.view.loc (c : Thread nD τ) ↦{fullShare.right} tN m))

/-- The data of the launch: each input's buffer at its block, the result's at what the point computes. -/
def dats (_ : Fin 1) (c : Dev nD) : Dat τ (Elt F) Unit ℕ (UR sig nD τ) ℕ (cfgA m hr) c where
  A w := m (((cfgA m hr).win w).arr.view.loc (c : Thread nD τ))
  after w t := match w with
    | ⟨0, _⟩ => iblk m hr c (0 : Fin 5) t
    | ⟨1, _⟩ => iblk m hr c (1 : Fin 5) t
    | ⟨2, _⟩ => iblk m hr c (2 : Fin 5) t
    | ⟨3, _⟩ => iblk m hr c (3 : Fin 5) t
    | ⟨4, _⟩ => outAt m hr c t
  Φ t := iprop(scr m hr c t.val (Nat.le_of_lt_succ t.isLt) ∗ tbls m c)
  q _ := fullShare
  owed _ := 0

theorem after_0 (c : Dev nD) (t : Fin (cfgA m hr).N) : (dats m hr 0 c).after (0 : Fin 5) t = iblk m hr c (0 : Fin 5) t := rfl
theorem after_1 (c : Dev nD) (t : Fin (cfgA m hr).N) : (dats m hr 0 c).after (1 : Fin 5) t = iblk m hr c (1 : Fin 5) t := rfl
theorem after_2 (c : Dev nD) (t : Fin (cfgA m hr).N) : (dats m hr 0 c).after (2 : Fin 5) t = iblk m hr c (2 : Fin 5) t := rfl
theorem after_3 (c : Dev nD) (t : Fin (cfgA m hr).N) : (dats m hr 0 c).after (3 : Fin 5) t = iblk m hr c (3 : Fin 5) t := rfl
theorem after_4 (c : Dev nD) (t : Fin (cfgA m hr).N) : (dats m hr 0 c).after (4 : Fin 5) t = outAt m hr c t := rfl

/-- Each input's buffer holds its block, fetched there or not. -/
theorem before_0 (c : Dev nD) (t : Fin (cfgA m hr).N) (d) : (dats m hr 0 c).before (0 : Fin 5) t d = iblk m hr c (0 : Fin 5) t :=
  ((dats m hr 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m hr).N) (d) : (dats m hr 0 c).before (1 : Fin 5) t d = iblk m hr c (1 : Fin 5) t :=
  ((dats m hr 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m hr).N) (d) : (dats m hr 0 c).before (2 : Fin 5) t d = iblk m hr c (2 : Fin 5) t :=
  ((dats m hr 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA m hr).N) (d) : (dats m hr 0 c).before (3 : Fin 5) t d = iblk m hr c (3 : Fin 5) t :=
  ((dats m hr 0 c).before_in_eq_fetched (3 : Fin 5) rfl (fun _ => rfl) (fun _ _ _ => rfl) (fun t => by rw [after_3]; unfold Dat.blockOf iblk; rfl) t d).trans
    (by unfold Dat.fetched Dat.blockOf iblk; rfl)

/-- What the body is called with at point `t`. -/
def given (c : Dev nD) (t : Fin (cfgA m hr).N) : sProp 𝕄 :=
  iprop((dats m hr 0 c).Φ t.castSucc ∗ (dats m hr 0 c).owesAt () t.castSucc
    ∗ (∃ d, owns (c : Thread nD τ) (ms0_0 m hr t) fullShare ((dats m hr 0 c).before (0 : Fin 5) t d))
    ∗ (∃ d, owns (c : Thread nD τ) (ms0_1 m hr t) fullShare ((dats m hr 0 c).before (1 : Fin 5) t d))
    ∗ (∃ d, owns (c : Thread nD τ) (ms0_2 m hr t) fullShare ((dats m hr 0 c).before (2 : Fin 5) t d))
    ∗ (∃ d, owns (c : Thread nD τ) (ms0_3 m hr t) fullShare ((dats m hr 0 c).before (3 : Fin 5) t d))
    ∗ (∃ d, owns (c : Thread nD τ) (ms0_4 m hr t) fullShare ((dats m hr 0 c).before (4 : Fin 5) t d)))

/-- What it returns. -/
def returned (c : Dev nD) (t : Fin (cfgA m hr).N) : sProp 𝕄 :=
  iprop((dats m hr 0 c).Φ t.succ ∗ (dats m hr 0 c).owesAt () t.succ
    ∗ owns (c : Thread nD τ) (ms0_0 m hr t) fullShare ((dats m hr 0 c).after (0 : Fin 5) t)
    ∗ owns (c : Thread nD τ) (ms0_1 m hr t) fullShare ((dats m hr 0 c).after (1 : Fin 5) t)
    ∗ owns (c : Thread nD τ) (ms0_2 m hr t) fullShare ((dats m hr 0 c).after (2 : Fin 5) t)
    ∗ owns (c : Thread nD τ) (ms0_3 m hr t) fullShare ((dats m hr 0 c).after (3 : Fin 5) t)
    ∗ owns (c : Thread nD τ) (ms0_4 m hr t) fullShare ((dats m hr 0 c).after (4 : Fin 5) t))

/-- The body at point `t`, as the launch calls it. -/
abbrev bodyAt (t : Fin (cfgA m hr).N) : Prog (TpuEff nD τ sig (Elt F) Λ₀ .tc) PUnit :=
  body (crd m hr t) (ms0_0 m hr t) (hs0_0 m hr t) (ms0_1 m hr t) (hs0_1 m hr t) (ms0_2 m hr t) (hs0_2 m hr t) (ms0_3 m hr t) (hs0_3 m hr t) (ms0_4 m hr t) (hs0_4 m hr t)

theorem phi_castSucc (c : Dev nD) (t : Fin (cfgA m hr).N) : (dats m hr 0 c).Φ t.castSucc = iprop(scr m hr c t.val (Nat.le_of_lt t.isLt) ∗ tbls m c) := rfl
theorem phi_succ (c : Dev nD) (t : Fin (cfgA m hr).N) : (dats m hr 0 c).Φ t.succ = iprop(scr m hr c (t.val + 1) t.isLt ∗ tbls m c) := rfl

theorem scr_used (c : Dev nD) (t : Fin (cfgA m hr).N) (hu : used (F := F) (tN m) t.val) :
    scr m hr c (t.val + 1) t.isLt = iprop(owns (c : Thread nD τ) scrA fullShare (wA m hr c t) ∗ owns (c : Thread nD τ) scrB fullShare (wB m hr c t)) := by
  show (if used (F := F) (tN m) t.val then _ else _) = _
  rw [if_pos hu]

theorem scr_unused (c : Dev nD) (t : Fin (cfgA m hr).N) (hu : ¬used (F := F) (tN m) t.val) :
    scr m hr c (t.val + 1) t.isLt = iprop((∃ d, owns (c : Thread nD τ) (scrA) fullShare d) ∗ (∃ d, owns (c : Thread nD τ) (scrB) fullShare d)) := by
  show (if used (F := F) (tN m) t.val then _ else _) = _
  rw [if_neg hu]

set_option maxHeartbeats 4000000 in
/-- The body's triple at a used tile that brings its weights in. -/
theorem triple_new (c : Dev nD) (t : Fin (cfgA m hr).N) (hu : used (F := F) (tN m) t.val) (hk : reload (F := F) (crd m hr t) (tE m) (tN m)) :
    given m hr c t ⊢ wp frame (wpE (defs₀ (F := F)) Variants.none c none) Set.univ (bodyAt m hr t) (fun _ => returned m hr c t) := by
  have hu' : used (F := F) (tN m) ((crd m hr t) 0).val := by rw [crd_val]; exact hu
  unfold given returned
  simp only [before_0, before_1, before_2, before_3]
  rw [show (dats m hr 0 c).owesAt () t.succ = (dats m hr 0 c).owesAt () t.castSucc from rfl,
    after_0, after_1, after_2, after_3, after_4, phi_castSucc, phi_succ, scr_used m hr c t hu]
  refine BIBase.Entails.trans (sep_mono_left (sep_mono_left (scr_forget m hr c _ _))) ?_
  unfold outAt; rw [if_pos hu]
  unfold tbls
  iintro ⟨⟨⟨HA, HB⟩, HT0, HT1⟩, Ho, ⟨%d0, H0⟩, ⟨%d1, H1⟩, ⟨%d2, H2⟩, ⟨%d3, H3⟩, ⟨%d4, H4⟩⟩
  iapply (run_new c (crd m hr t) _ _ _ _ _ _ _ _ _ _ (tE m) (tN m) hk ((cond2_iff _ _).2 hu') (fun h => (cond3_iff _ _).1 h hu') (iblk m hr c (0 : Fin 5) t) (iblk m hr c (1 : Fin 5) t) (iblk m hr c (2 : Fin 5) t) (iblk m hr c (3 : Fin 5) t) _)
  unfold holds
  isplitl [H0 H1 H2 H3 H4 HT0 HT1 HA HB]
  · isplitl [H0]; · iexact H0
    isplitl [H1]; · iexact H1
    isplitl [H2]; · iexact H2
    isplitl [H3]; · iexact H3
    isplitl [HT0]; · iexact HT0
    isplitl [HT1]; · iexact HT1
    isplitl [H4]; · iexists _; iexact H4
    isplitl [HA]; · iexact HA
    iexact HB
  iintro ⟨H0, H1, H2, H3, HT0, HT1, H4, HA, HB⟩
  isplitl [HA HB HT0 HT1]
  · isplitl [HA HB]
    · isplitl [HA]; · iexact HA
      iexact HB
    isplitl [HT0]; · iexact HT0
    iexact HT1
  isplitl [Ho]; · iexact Ho
  isplitl [H0]; · iexact H0
  isplitl [H1]; · iexact H1
  isplitl [H2]; · iexact H2
  isplitl [H3]; · iexact H3
  iexact H4

set_option maxHeartbeats 4000000 in
/-- The body's triple at a used tile that keeps the weights it finds. -/
theorem triple_kept (c : Dev nD) (t : Fin (cfgA m hr).N) (hu : used (F := F) (tN m) t.val) (hk : ¬reload (F := F) (crd m hr t) (tE m) (tN m)) :
    given m hr c t ⊢ wp frame (wpE (defs₀ (F := F)) Variants.none c none) Set.univ (bodyAt m hr t) (fun _ => returned m hr c t) := by
  have hu' : used (F := F) (tN m) ((crd m hr t) 0).val := by rw [crd_val]; exact hu
  unfold given returned
  simp only [before_0, before_1, before_2, before_3]
  rw [show (dats m hr 0 c).owesAt () t.succ = (dats m hr 0 c).owesAt () t.castSucc from rfl,
    after_0, after_1, after_2, after_3, after_4, phi_castSucc, phi_succ, scr_used m hr c t hu, scr_kept m hr c t hu hk]
  unfold outAt; rw [if_pos hu]
  unfold tbls
  iintro ⟨⟨⟨HA, HB⟩, HT0, HT1⟩, Ho, ⟨%d0, H0⟩, ⟨%d1, H1⟩, ⟨%d2, H2⟩, ⟨%d3, H3⟩, ⟨%d4, H4⟩⟩
  iapply (run_kept c (crd m hr t) _ _ _ _ _ _ _ _ _ _ (tE m) (tN m) hk ((cond2_iff _ _).2 hu') (fun h => (cond3_iff _ _).1 h hu') (iblk m hr c (0 : Fin 5) t) (iblk m hr c (1 : Fin 5) t) (iblk m hr c (2 : Fin 5) t) (iblk m hr c (3 : Fin 5) t) (wA m hr c t) (wB m hr c t) _)
  unfold holds
  isplitl [H0 H1 H2 H3 H4 HT0 HT1 HA HB]
  · isplitl [H0]; · iexact H0
    isplitl [H1]; · iexact H1
    isplitl [H2]; · iexact H2
    isplitl [H3]; · iexact H3
    isplitl [HT0]; · iexact HT0
    isplitl [HT1]; · iexact HT1
    isplitl [H4]; · iexists _; iexact H4
    isplitl [HA]; · iexact HA
    iexact HB
  iintro ⟨H0, H1, H2, H3, HT0, HT1, H4, HA, HB⟩
  isplitl [HA HB HT0 HT1]
  · isplitl [HA HB]
    · isplitl [HA]; · iexact HA
      iexact HB
    isplitl [HT0]; · iexact HT0
    iexact HT1
  isplitl [Ho]; · iexact Ho
  isplitl [H0]; · iexact H0
  isplitl [H1]; · iexact H1
  isplitl [H2]; · iexact H2
  isplitl [H3]; · iexact H3
  iexact H4

set_option maxHeartbeats 4000000 in
/-- The body's triple at a tile that is not used. -/
theorem triple_unused (c : Dev nD) (t : Fin (cfgA m hr).N) (hu : ¬used (F := F) (tN m) t.val) :
    given m hr c t ⊢ wp frame (wpE (defs₀ (F := F)) Variants.none c none) Set.univ (bodyAt m hr t) (fun _ => returned m hr c t) := by
  have hu' : ¬used (F := F) (tN m) ((crd m hr t) 0).val := by rw [crd_val]; exact hu
  unfold given returned
  simp only [before_0, before_1, before_2, before_3]
  rw [show (dats m hr 0 c).owesAt () t.succ = (dats m hr 0 c).owesAt () t.castSucc from rfl,
    after_0, after_1, after_2, after_3, after_4, phi_castSucc, phi_succ, scr_unused m hr c t hu]
  refine BIBase.Entails.trans (sep_mono_left (sep_mono_left (scr_forget m hr c _ _))) ?_
  unfold outAt; rw [if_neg hu]
  unfold tbls
  iintro ⟨⟨⟨HA, HB⟩, HT0, HT1⟩, Ho, ⟨%d0, H0⟩, ⟨%d1, H1⟩, ⟨%d2, H2⟩, ⟨%d3, H3⟩, ⟨%d4, H4⟩⟩
  iapply (run_unused c (crd m hr t) _ _ _ _ _ _ _ _ _ _ (tE m) (tN m) (fun h => hu' ((reload_iff _ _ _).1 h).1) (fun h => hu' ((cond2_iff _ _).1 h)) ((cond3_iff _ _).2 hu') (iblk m hr c (0 : Fin 5) t) (iblk m hr c (1 : Fin 5) t) (iblk m hr c (2 : Fin 5) t) (iblk m hr c (3 : Fin 5) t) _)
  unfold holds
  isplitl [H0 H1 H2 H3 H4 HT0 HT1 HA HB]
  · isplitl [H0]; · iexact H0
    isplitl [H1]; · iexact H1
    isplitl [H2]; · iexact H2
    isplitl [H3]; · iexact H3
    isplitl [HT0]; · iexact HT0
    isplitl [HT1]; · iexact HT1
    isplitl [H4]; · iexists _; iexact H4
    isplitl [HA]; · iexact HA
    iexact HB
  iintro ⟨H0, H1, H2, H3, HT0, HT1, H4, HA, HB⟩
  isplitl [HA HB HT0 HT1]
  · isplitl [HA HB]
    · isplitl [HA]; · iexact HA
      iexact HB
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body's triple at every point. -/
theorem triple (c : Dev nD) (t : Fin (cfgA m hr).N) :
    given m hr c t ⊢ wp frame (wpE (defs₀ (F := F)) Variants.none c none) Set.univ (bodyAt m hr t) (fun _ => returned m hr c t) := by
  by_cases hu : used (F := F) (tN m) t.val
  · by_cases hk : reload (F := F) (crd m hr t) (tE m) (tN m)
    · exact triple_new m hr c t hu hk
    · exact triple_kept m hr c t hu hk
  · exact triple_unused m hr c t hu

set_option maxHeartbeats 4000000 in
/-- The body's obligation, at every point. -/
theorem obligation (c : Dev nD) : BodyObligation (dats m hr 0 c) (defs₀ (F := F)) Variants.none () Set.univ := fun t => by
  rw [bigSep_W0, bigSep_W0]
  rw [busy m hr t]
  exact triple m hr c t

/-! ## The launch -/

/-- The launch's ghost state at the start. -/
def u₀ : UR sig nD τ :=
  initOf (Pipeline.cells (pcs m hr) ((launch0 (F := F)).cellOf_inj fun _ => adm m hr))
    (Pipeline.launchToks (pcs m hr) ((launch0 (F := F)).cellOf_inj fun _ => adm m hr))

theorem share_eq (c : Dev nD) (w : Fin (cfgA m hr).W) : (dats m hr 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- A whole scratch, as its contents and as the launch names them. -/
theorem putA (c : Dev nD) (f : Buf (Elt F) ((c : Thread nD τ).loc cc0_scratch0)) : ((((c : Thread nD τ).loc cc0_scratch0) ↦{fullShare} f : sProp 𝕄)) ⊢ owns (c : Thread nD τ) scrA fullShare f :=
  by
  rw [owns_whole (c : Thread nD τ) cc0_scratch0 fullShare f]
theorem putB (c : Dev nD) (f : Buf (Elt F) ((c : Thread nD τ).loc cc0_scratch1)) : ((((c : Thread nD τ).loc cc0_scratch1) ↦{fullShare} f : sProp 𝕄)) ⊢ owns (c : Thread nD τ) scrB fullShare f :=
  by
  rw [owns_whole (c : Thread nD τ) cc0_scratch1 fullShare f]
theorem getA (c : Dev nD) (f : Buf (Elt F) ((c : Thread nD τ).loc cc0_scratch0)) : owns (c : Thread nD τ) scrA fullShare f ⊢ ((((c : Thread nD τ).loc cc0_scratch0) ↦{fullShare} f : sProp 𝕄)) :=
  by
  rw [owns_whole (c : Thread nD τ) cc0_scratch0 fullShare f]
theorem getB (c : Dev nD) (f : Buf (Elt F) ((c : Thread nD τ).loc cc0_scratch1)) : owns (c : Thread nD τ) scrB fullShare f ⊢ ((((c : Thread nD τ).loc cc0_scratch1) ↦{fullShare} f : sProp 𝕄)) :=
  by
  rw [owns_whole (c : Thread nD τ) cc0_scratch1 fullShare f]

/-- What is held at the first point, from the tables and the scratches; -/
theorem held_first (c : Dev nD) :
    iprop(BI.emp ∗ Pipeline.prefHeld pre0 c (fun _ => fullShare.right) (adm m hr).1 ∗ Pipeline.scopedRest spec0 c) ⊢ (dats m hr 0 c).Φ 0 := by
  rw [prefHeld_eq, scopedRest0_eq, show (dats m hr 0 c).Φ 0 = iprop(iprop((∃ d, owns (c : Thread nD τ) (scrA) fullShare d) ∗ (∃ d, owns (c : Thread nD τ) (scrB) fullShare d)) ∗ tbls m c) from rfl]
  unfold tbls
  iintro ⟨-, ⟨HT0, HT1⟩, ⟨%a0, HS0⟩, ⟨%a1, HS1⟩⟩
  isplitl [HS0 HS1]
  · isplitl [HS0]
    · iexists a0; iapply (putA c a0); iexact HS0
    iexists a1; iapply (putB c a1); iexact HS1
  isplitl [HT0]
  · iexact HT0
  iexact HT1

/-- after the last point the scratches are given back. -/
theorem held_last (c : Dev nD) : (dats m hr 0 c).Φ (Fin.last (cfgA m hr).N) ⊢ iprop(BI.emp ∗ Pipeline.scopedRest spec0 c) := by
  rw [scopedRest0_eq, show (dats m hr 0 c).Φ (Fin.last (cfgA m hr).N) = iprop(scr m hr c (cfgA m hr).N (Nat.le_refl _) ∗ tbls m c) from rfl]
  refine BIBase.Entails.trans (sep_mono_left (scr_forget m hr c _ _)) ?_
  iintro ⟨⟨⟨%a0, HS0⟩, ⟨%a1, HS1⟩⟩, -⟩
  isplitr; · iempintro
  isplitl [HS0]
  · iexists a0; iapply (getA c a0); iexact HS0
  iexists a1; iapply (getB c a1); iexact HS1

/-- Every array at what the points computed, every table at what it was. -/
def Post : PUnit × MemSt nD τ sig (Elt F) → Prop := fun r =>
  ∀ c : Dev nD, (∀ w : Fin (cfgA m hr).W, r.2.mem (((cfgA m hr).win w).arr.view.loc (c : Thread nD τ)) = (dats m hr 0 c).arrAt w (cfgA m hr).N)
    ∧ ∀ j, r.2.mem ((c : Thread nD τ).loc (pre0.ref j)) = (adm m hr).1 j

theorem table_eq (c : Dev nD) (j : Fin 2) : m ((c : Thread nD τ).loc (pre0.ref j)) = (adm m hr).1 j := by
  rw [dev_eq c]
  match j with
  | ⟨0, _⟩ => rfl
  | ⟨1, _⟩ => rfl

set_option backward.isDefEq.respectTransparency.types false in
set_option maxHeartbeats 4000000 in
/-- The launch: every array as the data say, every counter back at zero. -/
theorem launched : θ_run (defs (F := F)) (onTc (τ := τ) (main (F := F))) ⟨m, fun _ => 0, ρ⟩ (fun r => Post m hr r ∧ r.2.sem = fun _ => 0) :=
  Pipeline.θ_run_region_noSem_pf_quiescent pcfgs (fun _ => adm m hr) (dats m hr) () ((launch0 (F := F)).cellOf_inj fun _ => adm m hr) (0 : Fin 1)
    (launch0 (F := F)).win.to₀ (launch0 (F := F)).pre EP defs₀ Variants.none m ρ main
    (hbody := fun c => (obligation m hr c).loose) (hne := (launch0 (F := F)).block_pos)
    (harr := (launch0 (F := F)).arr_whole) (hstage := (launch0 (F := F)).stage_whole) (howed := fun _ _ => rfl)
    (u₀ := u₀ m hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hr) (dats m hr) 0 (launch0 (F := F)).win.arr_inj c (launch0 (F := F)).arr_whole
      (share_eq m hr c) _ _ fun _ => rfl)
    (hpf := table_eq m hr)
    (X := fun _ => iprop(emp)) (Y := fun _ => iprop(emp)) (Z := fun _ => iprop(emp))
    (hX := fun c => by rw [unscopedRestP0_eq]; iintro -; isplitr <;> iempintro)
    (hin := held_first m hr)
    (hout := held_last m hr)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-! ## The result after the launch -/

/-- The tile of a row. -/
def ptOf (i : S36864x2048.Idx) : Fin (cfgA m hr).N :=
  ⟨(i 0).val / 256, lt_of_lt_of_eq (by
    have h0 : (i 0).val < 36864 := (i 0).isLt
    omega : (i 0).val / 256 < 144) N_0.symm⟩

/-- Its place in that tile's block. -/
def locOf (i : S36864x2048.Idx) : S256x2048.Idx := fun a => match a with
  | ⟨0, _⟩ => ⟨(i 0).val % 256, Nat.mod_lt _ (by decide)⟩
  | ⟨1, _⟩ => ⟨(i 1).val, (i 1).isLt⟩

/-- The result after the launch. -/
def G (c : Dev nD) : Buf (Elt F) ((c : Thread nD τ).loc main_v0) := fun i => outAt m hr c (ptOf m hr i) (locOf i)

theorem flushed_eq (c : Dev nD) (t : Fin (cfgA m hr).N) (hf : ((cfgA m hr).win (4 : Fin 5)).flush t = true) :
    (dats m hr 0 c).flushed (4 : Fin 5) t = (((cfgA m hr).win (4 : Fin 5)).blk t).view.read (Elt F) (G m hr c) := by
  show ((cfgA m hr).win (4 : Fin 5)).cut ((cfgA m hr).grid.coords t) ((dats m hr 0 c).after (4 : Fin 5) t) = _
  rw [after_4]
  have e0 : ((cfgA m hr).win (4 : Fin 5)).index t (0 : Fin 2) = t.val := congrFun (index4 m hr t) (0 : Fin 2)
  have e1 : ((cfgA m hr).win (4 : Fin 5)).index t (1 : Fin 2) = 0 := congrFun (index4 m hr t) (1 : Fin 2)
  funext y
  have ht : t.val < 144 := pt_lt m hr t
  have hy0 : (y 0).val < 256 := (y 0).isLt
  have hy1 : (y 1).val < 2048 := (y 1).isLt
  have hb0 : ((((cfgA m hr).win (4 : Fin 5)).blk t).view.emb y 0).val = ((cfgA m hr).win (4 : Fin 5)).index t (0 : Fin 2) * 256 + 1 * (y 0).val := rfl
  have hb1 : ((((cfgA m hr).win (4 : Fin 5)).blk t).view.emb y 1).val = ((cfgA m hr).win (4 : Fin 5)).index t (1 : Fin 2) * 2048 + 1 * (y 1).val := rfl
  have hp : ptOf m hr ((((cfgA m hr).win (4 : Fin 5)).blk t).view.emb y) = t := by
    apply Fin.ext
    show ((((cfgA m hr).win (4 : Fin 5)).blk t).view.emb y 0).val / 256 = _
    rw [hb0, e0]; omega
  have hl : locOf ((((cfgA m hr).win (4 : Fin 5)).blk t).view.emb y) = ((cfgA m hr).win (4 : Fin 5)).xinj ((cfgA m hr).grid.coords t) y := by
    funext a; apply Fin.ext
    match a with
    | ⟨0, _⟩ => show ((((cfgA m hr).win (4 : Fin 5)).blk t).view.emb y 0).val % 256 = (y 0).val; rw [hb0, e0]; omega
    | ⟨1, _⟩ => show ((((cfgA m hr).win (4 : Fin 5)).blk t).view.emb y 1).val = (y 1).val; rw [hb1, e1]; omega
  show outAt m hr c t (((cfgA m hr).win (4 : Fin 5)).xinj ((cfgA m hr).grid.coords t) y) = outAt m hr c (ptOf m hr ((((cfgA m hr).win (4 : Fin 5)).blk t).view.emb y)) (locOf ((((cfgA m hr).win (4 : Fin 5)).blk t).view.emb y))
  rw [hp, hl]

/-- Every place of the result is in the block of its tile. -/
theorem covered (i : S36864x2048.Idx) : ∃ t : Fin (cfgA m hr).N, ((cfgA m hr).win (4 : Fin 5)).flush t = true ∧ i ∈ (((cfgA m hr).win (4 : Fin 5)).blk t).view.set := by
  refine ⟨ptOf m hr i, flushes m hr _, ?_⟩
  show i ∈ ((View.whole main_v0).slice (((cfgA m hr).win (4 : Fin 5)).rect (ptOf m hr i))).set
  rw [View.set_slice_whole, Rect.mem_set_unit]
  have e0 : ((cfgA m hr).win (4 : Fin 5)).index (ptOf m hr i) (0 : Fin 2) = (ptOf m hr i).val := congrFun (index4 m hr _) (0 : Fin 2)
  have e1 : ((cfgA m hr).win (4 : Fin 5)).index (ptOf m hr i) (1 : Fin 2) = 0 := congrFun (index4 m hr _) (1 : Fin 2)
  have hv : (ptOf m hr i).val = (i 0).val / 256 := rfl
  have h0 : (i 0).val < 36864 := (i 0).isLt
  have h1 : (i 1).val < 2048 := (i 1).isLt
  intro a
  match a with
  | ⟨0, _⟩ => show ((cfgA m hr).win (4 : Fin 5)).index (ptOf m hr i) (0 : Fin 2) * 256 ≤ (i 0).val ∧ (i 0).val < ((cfgA m hr).win (4 : Fin 5)).index (ptOf m hr i) (0 : Fin 2) * 256 + 256; rw [e0, hv]; omega
  | ⟨1, _⟩ => show ((cfgA m hr).win (4 : Fin 5)).index (ptOf m hr i) (1 : Fin 2) * 2048 ≤ (i 1).val ∧ (i 1).val < ((cfgA m hr).win (4 : Fin 5)).index (ptOf m hr i) (1 : Fin 2) * 2048 + 2048; rw [e1]; omega

theorem final (c : Dev nD) : (dats m hr 0 c).arrAt (4 : Fin 5) (cfgA m hr).N = G m hr c :=
  (dats m hr 0 c).arrAt_eq_of_cover (4 : Fin 5) _ (fun t hf => flushed_eq m hr c t hf) (covered m hr)

/-- The run with the result named, the arguments unchanged. -/
theorem run : θ_run (defs (F := F)) (onTc (τ := τ) (main (F := F))) ⟨m, fun _ => 0, ρ⟩ fun r => ∀ c : Dev nD,
      r.2.mem ((c.tc : Thread nD τ).loc main_v0) = G m hr c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 (4 : Fin 5)).trans (final m hr c),
    ((h.1 c).2 0).trans (table_eq m hr c 0).symm, ((h.1 c).2 1).trans (table_eq m hr c 1).symm,
    ((h.1 c).1 (0 : Fin 5)).trans ((dats m hr 0 c).arrAt_in (0 : Fin 5) rfl _), ((h.1 c).1 (1 : Fin 5)).trans ((dats m hr 0 c).arrAt_in (1 : Fin 5) rfl _),
    ((h.1 c).1 (2 : Fin 5)).trans ((dats m hr 0 c).arrAt_in (2 : Fin 5) rfl _), ((h.1 c).1 (3 : Fin 5)).trans ((dats m hr 0 c).arrAt_in (3 : Fin 5) rfl _)⟩) (launched m ρ hr)

include hr in
/-- The frame: the arguments are unchanged and every counter is back at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => (h c).2) (run m ρ hr)) ((θ_run defs _ _).mono (fun _ h => h.2) (launched m ρ hr))

end Cert.Kernel2Ideal.Ffn
end
-- ==== Proof.FfnRow.lean ====
/-
  ONE ROW OF AN EXPERT'S FEED-FORWARD, over the extended reals: x of the gate times the sigmoid of x, times the other
  projection, through the last weights. The two ways of writing x · σ(x) agree at every extended real.
-/
module

public import Idealize.ShloMosaic.Lib.IdealHost
public import Idealize.ShloMosaic.PureOps.Ideal.Laws

@[expose] public section

set_option backward.proofsInPublic true

noncomputable section

namespace Cert.Ffn

open Idealize.ShloMosaic

/-- The pattern of one. -/
theorem ofBits_unit : Ideal.ofBits .f32 0x3F800000#32 = 1 := by
  simp [Ideal.ofBits, Ideal.ieee, -EReal.coe_mul]; norm_num

/-- `g / (1 + e⁻ᵍ)`. -/
def swish (g : EReal) : EReal := Ideal.div g (1 + Ideal.exp (-g))

/-- One entry of a row: the hidden numbers against a column of the last weights. -/
def entry (x : Fin 2048 → EReal) (wg wu : Fin 2048 → Fin 640 → EReal) (wd : Fin 640 → EReal) : EReal :=
  ∑ f : Fin 640, (swish (∑ k : Fin 2048, x k * wg k f) * ∑ k : Fin 2048, x k * wu k f) * wd f

theorem exp_nonneg (x : EReal) : 0 ≤ Ideal.exp x := by
  induction x using EReal.rec with
  | bot => exact le_refl _
  | top => exact le_top
  | coe r => exact EReal.coe_nonneg.2 (Real.exp_pos r).le

theorem one_add_exp_ne (x : EReal) : (1 : EReal) + Ideal.exp x ≠ 0 := by
  intro h
  have h1 : (1 : EReal) ≤ 1 + Ideal.exp x := le_add_of_nonneg_right (exp_nonneg x)
  rw [h] at h1
  exact absurd h1 (by norm_num)

/-- The product with the sigmoid is the quotient. -/
theorem swish_eq (g : EReal) : g * Ideal.div 1 (1 + Ideal.exp (-g)) = swish g := by
  unfold swish Ideal.div
  rw [if_neg (one_add_exp_ne _), if_neg (one_add_exp_ne _), one_mul]

end Cert.Ffn
end
-- ==== Proof.FfnReference.lean ====
/-
  THE REFERENCE OF THE EXPERT FEED-FORWARD AT AN INDEX, over the extended reals: its gates pick the expert of the row's
  tile where the tile is used, so that its sum over the experts is that expert's row, or zero.
-/
module

public import proofs.«01_k».proof.Proof.Gen.Reference2Ideal.Read
public import proofs.«01_k».proof.Proof.FfnRow
public import Idealize.ShloMosaic.Lib.Pointwise
public import Idealize.ShloMosaic.Lib.WordCmp
public import Idealize.ShloMosaic.Lib.Routing.Words

@[expose] public section

set_option backward.proofsInPublic true
set_option maxRecDepth 16384

noncomputable section

namespace Cert.Reference2Ideal.Ffn

open Cert.Reference2Ideal Cert.Reference2Ideal.Gen Cert.Reference2Ideal.Read Cert.Ffn
open Idealize.ShloMosaic Idealize.ShloMosaic.TcCoe Idealize.ShloMosaic.Tactic

variable (x0 : IVec S144 32) (x1 : IVec S1 32) (x2 : FVec Ideal S36864x2048 .f32) (x3 x4 : FVec Ideal S16x2048x640 .f32)
  (x5 : FVec Ideal S16x640x2048 .f32)

/-- The tile of a row, as the reference's words. -/
theorem v3_at (r : Fin 36864) : val_main_v3 (F := Ideal) (ix1 r) = BitVec.ofNat 32 (r.val / 256) := by
  have hr := r.isLt
  have e2 : val_main_v2 (F := Ideal) (ix1 r) = BitVec.ofNat 32 r.val := rfl
  have ev : ∀ i, val_main_call0_v0 (F := Ideal) i = BitVec.ofNat 32 256 := fun _ => rfl
  have e1 : val_main_call0_v1 (F := Ideal) (ix1 r) = BitVec.ofNat 32 256 := by rw [val_main_call0_v1_apply, ev]
  have e7 : val_main_call0_v7 (F := Ideal) (ix1 r) = BitVec.ofNat 32 256 := by rw [val_main_call0_v7_apply, ev]
  have ed : val_main_call0_v2 (F := Ideal) (ix1 r) = BitVec.ofNat 32 (r.val / 256) := by
    rw [val_main_call0_v2_apply, e2, e1, Routing.divsi_word _ (by omega) (by decide) (by decide)]
  have em : val_main_call0_v8 (F := Ideal) (ix1 r) = BitVec.ofNat 32 (r.val % 256) := by
    rw [val_main_call0_v8_apply, e2, e7, Routing.remsi_word _ (by omega) (by decide) (by decide)]
  have e9 : val_main_call0_v9 (F := Ideal) (ix1 r) = BitVec.ofNat 32 0 := by rw [val_main_call0_v9_apply]; rfl
  have e5 : val_main_call0_v5 (F := Ideal) (ix1 r) = 1#32 := by
    rw [val_main_call0_v5_apply]
    show (if (256#32 : BitVec 32) = 0 then (0 : BitVec 32) else if (256#32 : BitVec 32).msb then -1 else 1) = 1#32
    decide
  have ec : val_main_call0_v11 (F := Ideal) (ix1 r) = 0#1 := by
    rw [val_main_call0_v11_apply, val_main_call0_v6_apply, val_main_call0_v10_apply, em, e9, e5]
    by_cases h0 : r.val = 0
    · rw [h0]
      have : IntOp.cmpi .ne (BitVec.ofNat 32 (0 % 256)) (BitVec.ofNat 32 0) = 0#1 := by decide
      rw [this]
      exact BitVec.and_zero
    · have e3 : val_main_call0_v3 (F := Ideal) (ix1 r) = 1#32 := by
        show (if (BitVec.ofNat 32 r.val) = 0 then (0 : BitVec 32) else if (BitVec.ofNat 32 r.val).msb then -1 else 1) = 1#32
        rw [if_neg, if_neg]
        · rfl
        · rw [BitVec.msb_eq_decide, BitVec.toNat_ofNat]
          simp only [decide_eq_true_eq]
          omega
        · intro h
          have := congrArg BitVec.toNat h
          rw [BitVec.toNat_ofNat] at this
          have hz : (0 : BitVec 32).toNat = 0 := rfl
          omega
      rw [e3]
      have : IntOp.cmpi .ne 1#32 1#32 = 0#1 := by decide
      rw [this]
      exact BitVec.zero_and
  rw [val_main_v3_apply, ec, ed]
  rfl

/-- A gate. -/
theorem v15_at (r : Fin 36864) (e : Fin 16) :
    val_main_v15 (F := Ideal) x0 x1 (ix2 r e)
      = if x0 (ix1 ⟨r.val / 256, by omega⟩) = BitVec.ofNat 32 e.val ∧ ((r.val / 256 : ℕ) : ℤ) < BitVec.toInt (x1 (ix1 0)) then 1 else 0 := by
  have hr := r.isLt
  have ea : val_main_v11 (F := Ideal) x0 (ix2 r e)
      = BitVec.ofBool (decide (x0 (ix1 ⟨r.val / 256, by omega⟩) = BitVec.ofNat 32 e.val)) := by
    pointwise [val_main_v11, val_main_v10, val_main_v9, val_main_v8, val_main_v7, val_main_v6, val_main_v1, val_main_v0]
    rw [WordCmp.cmpi_eq_eq]
  have eb : val_main_v13 (F := Ideal) x1 (ix2 r e)
      = BitVec.ofBool (decide (((r.val / 256 : ℕ) : ℤ) < BitVec.toInt (x1 (ix1 0)))) := by
    have h5 : val_main_v13 (F := Ideal) x1 (ix2 r e) = val_main_v5 (F := Ideal) x1 (ix1 r) := by
      pointwise [val_main_v13, val_main_v12]
    have h4 : val_main_v4 (F := Ideal) x1 (ix1 r) = x1 (ix1 0) := by
      pointwise [val_main_v4]
    rw [h5, val_main_v5_apply, v3_at, h4, WordCmp.cmpi_slt_eq, WordCmp.toInt_ofNat_of_lt (by norm_num; omega)]
  have e1 : val_main_call1_v0 (F := Ideal) (ix2 r e) = 1 := by
    rw [val_main_call1_v0_apply]; exact ofBits_unit
  have e0 : val_main_call1_v1 (F := Ideal) (ix2 r e) = 0 := by
    rw [val_main_call1_v1_apply]; exact Ideal.ofBits_zero_f32
  rw [val_main_v15_apply, val_main_v14_apply, ea, eb, e1, e0, WordCmp.andi_ofBool, WordCmp.select_ofBool]
  refine if_congr ?_ rfl rfl
  rw [Bool.and_eq_true, decide_eq_true_eq, decide_eq_true_eq]

/-- A projection of a row by the gate's weights. -/
theorem v17_at (e : Fin 16) (r : Fin 36864) (f : Fin 640) :
    val_main_v17 (F := Ideal) x2 x3 (ix3 e r f) = ∑ k : Fin 2048, x2 (ix2 r k) * x3 (ix3 e k f) := by
  have h : val_main_v17 (F := Ideal) x2 x3 (ix3 e r f) = ∑ k : Fin 2048, x3 (ix3 e k f) * x2 (ix2 r k) := by
    pointwise [val_main_v17, val_main_v16]
  rw [h]
  exact Finset.sum_congr rfl fun k _ => mul_comm _ _

/-- A projection of a row by the other weights. -/
theorem v20_at (e : Fin 16) (r : Fin 36864) (f : Fin 640) :
    val_main_v20 (F := Ideal) x2 x4 (ix3 e r f) = ∑ k : Fin 2048, x2 (ix2 r k) * x4 (ix3 e k f) := by
  have h : val_main_v20 (F := Ideal) x2 x4 (ix3 e r f) = ∑ k : Fin 2048, x4 (ix3 e k f) * x2 (ix2 r k) := by
    pointwise [val_main_v20, val_main_v19]
  rw [h]
  exact Finset.sum_congr rfl fun k _ => mul_comm _ _

/-- The projection times its sigmoid. -/
theorem v18_at (e : Fin 16) (r : Fin 36864) (f : Fin 640) :
    val_main_v18 (F := Ideal) x2 x3 (ix3 e r f) = swish (val_main_v17 (F := Ideal) x2 x3 (ix3 e r f)) := by
  have h2 : val_main_call2_v2 (F := Ideal) (ix3 e r f) = 1 := by
    rw [val_main_call2_v2_apply]; exact ofBits_unit
  have h4 : val_main_call2_v4 (F := Ideal) (ix3 e r f) = 1 := by
    rw [val_main_call2_v4_apply]; exact ofBits_unit
  rw [val_main_v18_apply, val_main_call2_v5_apply, val_main_call2_v3_apply, h2, h4, val_main_call2_v1_apply, val_main_call2_v0_apply]
  exact swish_eq _

/-- One expert's entry of a row. -/
theorem v22_at (e : Fin 16) (r : Fin 36864) (d : Fin 2048) :
    val_main_v22 (F := Ideal) x2 x3 x4 x5 (ix3 e r d)
      = entry (fun k => x2 (ix2 r k)) (fun k f => x3 (ix3 e k f)) (fun k f => x4 (ix3 e k f)) (fun f => x5 (ix3 e f d)) := by
  have h : val_main_v22 (F := Ideal) x2 x3 x4 x5 (ix3 e r d)
      = ∑ f : Fin 640, val_main_v21 (F := Ideal) x2 x3 x4 (ix3 e r f) * x5 (ix3 e f d) := by
    pointwise [val_main_v22]
  rw [h]
  refine Finset.sum_congr rfl fun f _ => congrArg (· * _) ?_
  rw [val_main_v21_apply, v18_at, v17_at, v20_at]
  rfl

/-- The result: the entry of the tile's expert where the tile is used, zero elsewhere. -/
theorem v23_at (hr : ∀ j : S144.Idx, BitVec.toNat (w := 32) (x0 j) < 16) (r : Fin 36864) (d : Fin 2048) :
    val_main_v23 (F := Ideal) x0 x1 x2 x3 x4 x5 (ix2 r d)
      = if ((r.val / 256 : ℕ) : ℤ) < BitVec.toInt (x1 (ix1 0)) then
          entry (fun k => x2 (ix2 r k))
            (fun k f => x3 (ix3 (⟨BitVec.toNat (x0 (ix1 ⟨r.val / 256, by omega⟩)), hr _⟩ : Fin 16) k f))
            (fun k f => x4 (ix3 (⟨BitVec.toNat (x0 (ix1 ⟨r.val / 256, by omega⟩)), hr _⟩ : Fin 16) k f))
            (fun f => x5 (ix3 (⟨BitVec.toNat (x0 (ix1 ⟨r.val / 256, by omega⟩)), hr _⟩ : Fin 16) f d))
        else 0 := by
  have h : val_main_v23 (F := Ideal) x0 x1 x2 x3 x4 x5 (ix2 r d)
      = ∑ e : Fin 16, val_main_v15 (F := Ideal) x0 x1 (ix2 r e) * val_main_v22 (F := Ideal) x2 x3 x4 x5 (ix3 e r d) := by
    pointwise [val_main_v23]
  rw [h]
  by_cases hu : ((r.val / 256 : ℕ) : ℤ) < BitVec.toInt (x1 (ix1 0))
  · rw [if_pos hu, Finset.sum_eq_single (⟨BitVec.toNat (x0 (ix1 ⟨r.val / 256, by omega⟩)), hr _⟩ : Fin 16)]
    · rw [v15_at, if_pos ⟨((BitVec.ofNat_toNat _ _).trans (BitVec.setWidth_eq _)).symm, hu⟩, one_mul, v22_at]
    · intro e _ hne
      rw [v15_at, if_neg, zero_mul]
      rintro ⟨he, -⟩
      refine hne (Fin.ext ?_)
      show e.val = BitVec.toNat (x0 _)
      rw [he, BitVec.toNat_ofNat]
      have := e.isLt
      omega
    · exact fun hn => absurd (Finset.mem_univ _) hn
  · rw [if_neg hu]
    refine Finset.sum_eq_zero fun e _ => ?_
    rw [v15_at, if_neg (fun hh => hu hh.2), zero_mul]

end Cert.Reference2Ideal.Ffn
end
-- ==== Proof.FfnValue.lean ====
/-
  THE RESULT OF THE EXPERT FEED-FORWARD IS THE REFERENCE'S: the payloads at an index, the blocks a tile reads as entries
  of the arguments, and the equation at every index.
-/
module

public import proofs.«01_k».proof.Proof.FfnLaunch
public import proofs.«01_k».proof.Proof.FfnReference
public import Idealize.ShloMosaic.Lib.StableHlo.ReadAt

@[expose] public section

set_option backward.proofsInPublic true
set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic Idealize.SL.Sem

/-- The gate's weights in the first scratch. -/
theorem wgu_left (x1 x2 : FVec Ideal S1x2048x640 .f32) (k : Fin 2048) (f : Fin 640) :
    wguOf (F := Ideal) x1 x2 (ix2 k ⟨f.val, by omega⟩) = x1 (ix3 0 k f) := by
  have e : k0_pay1 (F := Ideal) x1 (ix2 k f) = x1 (ix3 0 k f) := by
    pointwise [k0_pay1]
  refine Eq.trans (dif_pos (by show f.val < 640; exact f.isLt)) (Eq.trans (congrArg _ ?_) e)
  exact eq_ix2 _

/-- The other weights in the first scratch. -/
theorem wgu_right (x1 x2 : FVec Ideal S1x2048x640 .f32) (k : Fin 2048) (f : Fin 640) :
    wguOf (F := Ideal) x1 x2 (ix2 k ⟨640 + f.val, by omega⟩) = x2 (ix3 0 k f) := by
  have e : k0_pay2 (F := Ideal) x2 (ix2 k f) = x2 (ix3 0 k f) := by
    pointwise [k0_pay2]
  refine Eq.trans (dif_neg (by show ¬ 640 + f.val < 640; omega)) (Eq.trans (congrArg _ ?_) e)
  funext a
  match a with
  | 0 => rfl
  | 1 => exact Fin.ext (by show 640 + f.val - 640 = f.val; omega)

/-- The last weights in the second scratch. -/
theorem wd_at (x3 : FVec Ideal S1x640x2048 .f32) (f : Fin 640) (d : Fin 2048) :
    k0_pay3 (F := Ideal) x3 (ix2 f d) = x3 (ix3 0 f d) := by
  pointwise [k0_pay3]

/-- A tile that is not used is zero. -/
theorem zeros_at (r : Fin 256) (d : Fin 2048) : k0_pay5 (F := Ideal) (ix2 r d) = 0 := Ideal.ofBits_zero_f32

/-- A used tile at an index. -/
theorem ffn_at (x : FVec Ideal S256x2048 .f32) (A : FVec Ideal S2048x1280 .bf16) (B : FVec Ideal S640x2048 .bf16) (r : Fin 256) (d : Fin 2048) :
    k0_pay4 (F := Ideal) x A B (ix2 r d)
      = entry (fun k => x (ix2 r k)) (fun k f => A (ix2 k ⟨f.val, by omega⟩)) (fun k f => A (ix2 k ⟨640 + f.val, by omega⟩)) (fun f => B (ix2 f d)) := by
  pointwise [k0_pay4]
  simp only [zero_sub]
  rfl

variable (m : (ℓ : Loc nD τ sig) → Buf (Elt Ideal) ℓ) (hr : InRange m) (c : Dev nD)

/-- The expert of a tile, as one of the sixteen. -/
def who (t : Fin (cfgA m hr).N) : Fin 16 := ⟨BitVec.toNat (w := 32) (tE m (ix1 (tile m hr t))), hr _⟩

/-- The rows of a tile. -/
theorem rows_at (t : Fin (cfgA m hr).N) (r : Fin 256) (k : Fin 2048) :
    iblk m hr c (0 : Fin 5) t (ix2 r k) = m ((c.tc : Thread nD τ).loc main_arg2) (ix2 ⟨256 * t.val + r.val, by have := pt_lt m hr t; omega⟩ k) := by
  have e := index0 m hr t
  blk_ext [iblk, e]

/-- The gate's weights of the tile's expert. -/
theorem gate_at (t : Fin (cfgA m hr).N) (k : Fin 2048) (f : Fin 640) :
    iblk m hr c (1 : Fin 5) t (ix3 0 k f) = m ((c.tc : Thread nD τ).loc main_arg3) (ix3 (who m hr t) k f) := by
  have e := index1 m hr t
  blk_ext [iblk, e]
  rfl

/-- The other weights of the tile's expert. -/
theorem up_at (t : Fin (cfgA m hr).N) (k : Fin 2048) (f : Fin 640) :
    iblk m hr c (2 : Fin 5) t (ix3 0 k f) = m ((c.tc : Thread nD τ).loc main_arg4) (ix3 (who m hr t) k f) := by
  have e := index2 m hr t
  blk_ext [iblk, e]
  rfl

/-- The last weights of the tile's expert. -/
theorem down_at (t : Fin (cfgA m hr).N) (f : Fin 640) (d : Fin 2048) :
    iblk m hr c (3 : Fin 5) t (ix3 0 f d) = m ((c.tc : Thread nD τ).loc main_arg5) (ix3 (who m hr t) f d) := by
  have e := index3 m hr t
  blk_ext [iblk, e]
  rfl

/-- The launch leaves the reference's result. -/
theorem result_eq (i : S36864x2048.Idx) :
    G m hr c i = Reference2Ideal.Read.val_main_v23 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) i := by
  obtain rfl := dev_eq c
  obtain ⟨r, d, rfl⟩ : ∃ (r : Fin 36864) (d : Fin 2048), i = ix2 r d := ⟨i 0, i 1, eq_ix2 i⟩
  have ht : (ptOf m hr (ix2 r d)).val = r.val / 256 := rfl
  have hl : locOf (ix2 r d) = ix2 (⟨r.val % 256, by omega⟩ : Fin 256) d := by
    funext a
    match a with
    | 0 => rfl
    | 1 => rfl
  rw [Reference2Ideal.Ffn.v23_at _ _ _ _ _ _ hr]
  unfold G outAt
  rw [hl]
  by_cases hu : used (F := Ideal) (tN m) (r.val / 256)
  · rw [if_pos (show used (F := Ideal) (tN m) (ptOf m hr (ix2 r d)).val from hu)]
    refine Eq.trans ?_ (if_pos hu).symm
    unfold wA wB
    rw [ffn_at]
    simp only [wgu_left, wgu_right, wd_at, rows_at, gate_at, up_at, down_at]
    have hrow : ∀ k : Fin 2048, (ix2 (⟨256 * (ptOf m hr (ix2 r d)).val + r.val % 256, by omega⟩ : Fin 36864) k) = ix2 r k := fun k =>
      congrArg (ix2 · k) (Fin.ext (by show 256 * (r.val / 256) + r.val % 256 = r.val; omega))
    simp only [hrow]
    rfl
  · rw [if_neg (show ¬ used (F := Ideal) (tN m) (ptOf m hr (ix2 r d)).val from hu)]
    exact (zeros_at _ _).trans (if_neg hu).symm

end Cert.Kernel2Ideal.Ffn
end
-- ==== Proof.FfnRange.lean ====
/-
  THE PRECONDITION READ: where `experts_in_range` is all ones, every tile's expert is one of the sixteen.
-/
module

public import proofs.«01_k».proof.Proof.Gen.Pre_experts_in_range
public import Idealize.ShloMosaic.Lib.Pointwise
public import Idealize.ShloMosaic.Lib.ReduceAll
public import Idealize.ShloMosaic.Lib.ValueIdx

@[expose] public section

set_option backward.proofsInPublic true
set_option maxRecDepth 16384

noncomputable section

namespace Cert.Pre_experts_in_range.Ffn

open Cert.Pre_experts_in_range Cert.Pre_experts_in_range.Gen
open Idealize.ShloMosaic Idealize.ShloMosaic.Tactic

/-- A conjunction of one-bit words that is one. -/
theorem both_one {a b : BitVec 1} (h : a &&& b = 1#1) : a = 1#1 ∧ b = 1#1 := by
  revert a b
  decide

/-- A word from 0 to 15 in its signed reading is so in the unsigned one. -/
theorem small_word (w : BitVec 32) (h0 : BitVec.ofBool ((0#32).sle w) = 1#1) (h1 : BitVec.ofBool (w.slt 16#32) = 1#1) :
    w.toNat < 16 := by
  have h0' : (0#32).sle w = true := by
    cases h : (0#32).sle w
    · rw [h] at h0; exact absurd h0 (by decide)
    · rfl
  have h1' : w.slt 16#32 = true := by
    cases h : w.slt 16#32
    · rw [h] at h1; exact absurd h1 (by decide)
    · rfl
  rw [BitVec.sle, decide_eq_true_eq] at h0'
  rw [BitVec.slt, decide_eq_true_eq] at h1'
  rw [BitVec.toInt_eq_toNat_cond] at h0' h1'
  rw [BitVec.toInt_eq_toNat_cond] at h0' h1'
  simp only [BitVec.toNat_ofNat] at h0' h1'
  have := w.isLt
  omega

variable {F : FTy → Type} [FloatOps F]

instance : Subsingleton S_.Idx := ⟨fun a b => funext fun i => i.elim0⟩

/-- The precondition says that every expert named is one of the sixteen. -/
theorem in_range (x0 : IVec S144 32) (x1 : IVec S1 32) (x2 : FVec F S36864x2048 .f32) (x3 x4 : FVec F S16x2048x640 .f32)
    (x5 : FVec F S16x640x2048 .f32) (h : fn (F := F) x0 x1 x2 x3 x4 x5 = fun _ => 1#1) (j : S144.Idx) :
    BitVec.toNat (w := 32) (x0 j) < 16 := by
  have e := congrFun h ix0
  dsimp only [fn] at e
  obtain ⟨a, b⟩ := both_one (Host.reduce_andi_all _ _ _ _ _ e j)
  exact small_word _ a b

end Cert.Pre_experts_in_range.Ffn
end
-- ==== Proof.FfnPlain.lean ====
module

public import proofs.«01_k».proof.Defs
public import proofs.«01_k».proof.Proof.Gen.Kernel2
public import proofs.«01_k».proof.Proof.FfnRange
public import proofs.«01_k».proof.Proof.FfnLaunch

/-!
# The expert feed-forward over the words

The two printed programs of the expert feed-forward are one text; its run is proved for every reading of the
floats, so also for their words.
-/

@[expose] public section

set_option maxRecDepth 65536
set_option maxHeartbeats 4000000

noncomputable section

open Idealize.ShloMosaic

namespace Cert.Kernel2.Ffn

/-- The two programs are one. -/
theorem main_eq : Cert.Kernel2.main (F := Bits) = Cert.Kernel2Ideal.main (F := Bits) := rfl

/-- So are the bodies of their kernels, at each label. -/
theorem bodies_eq : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) => rfl
  | ⟨_ + 1, h⟩, _ => exact absurd h (Nat.not_lt.2 (Nat.le_add_left _ _))

/-- So the launches run the same bodies. -/
theorem defs_eq : Cert.Kernel2.defs (F := Bits) = Cert.Kernel2Ideal.defs (F := Bits) :=
  congrArg (Pipeline.defs Cert.Kernel2.pcfgs) bodies_eq

/-- The program runs, its arguments end unchanged and every counter ends at zero. -/
theorem frame : Cert.quiescent_Kernel2 := by
  intro m ρ hpre
  rw [defs_eq, main_eq]
  exact Cert.Kernel2Ideal.Ffn.frame (F := Bits) m ρ
    (Cert.Pre_experts_in_range.Ffn.in_range (F := Bits) _ _ _ _ _ _ (hpre Cert.Kernel2Ideal.Ffn.dev))

end Cert.Kernel2.Ffn

end
-- ==== Proof.ProjBody.lean ====
/-
  THE FIRST LAYER'S INPUT PROJECTION'S GRID: what a point leaves in its scratch and in its block of the result. The first of a block of
  rows' five points keeps the rows in the scratch; each of the five multiplies the scratch by its own columns.
-/
module

public import proofs.«01_k».proof.Proof.Gen.Kernel3Ideal.Value
public import Idealize.ShloMosaic.Lib.Pipeline.ValueKit
public import Idealize.ShloMosaic.Lib.Pointwise
public import Idealize.ShloMosaic.Lib.Claim
public import Idealize.ShloMosaic.Lib.StableHlo.ReadAt

@[expose] public section

set_option backward.proofsInPublic true
set_option maxRecDepth 16384

noncomputable section

namespace Cert.Kernel3Ideal.Proj

open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ) (c : Dev nD)

/-- The rows and the widened weights. -/
abbrev X : FVec Ideal S16384x2048 .f32 := m ((c.tc : Thread nD τ).loc main_arg0)
abbrev W : FVec Ideal S2048x6400 .bf16 := V m c main_v5

/-- Where each window's block lies at a point: its rows are `t / 5`, its columns `t % 5`. -/
theorem places : ∀ t : Fin cfg0.N, win0_0.index t = ![t.val / 5, 0] ∧ win0_1.index t = ![0, t.val % 5] :=
  (by decide +kernel : ∀ t : Fin grid0.N, win0_0.index t = ![t.val / 5, 0] ∧ win0_1.index t = ![0, t.val % 5])

theorem lt_80 (t : Fin cfg0.N) : t.val < 80 := lt_of_lt_of_eq t.isLt N_0

/-- The rows kept in the scratch. -/
theorem kept_at (x : FVec Ideal S1024x2048 .f32) (r : Fin 1024) (k : Fin 2048) : k0_pay1 (F := Ideal) x (ix2 r k) = x (ix2 r k) := by
  pointwise [k0_pay1]

/-- A block of the result. -/
theorem product_at (x : FVec Ideal S1024x2048 .bf16) (w : FVec Ideal S2048x1280 .bf16) (r : Fin 1024) (l : Fin 1280) :
    k0_pay2 (F := Ideal) x w (ix2 r l) = ∑ k : Fin 2048, x (ix2 r k) * w (ix2 k l) := by
  pointwise [k0_pay2]

/-- The rows of a point. -/
theorem rows_at (t : Fin cfg0.N) (r : Fin 1024) (k : Fin 2048) :
    iblk m c 0 t (ix2 r k) = X m c (ix2 ⟨1024 * (t.val / 5) + r.val, by have := lt_80 t; omega⟩ k) := by
  obtain ⟨e0, e1⟩ := places t
  blk_ext [iblk, V, e0]

/-- The columns of a point. -/
theorem cols_at (t : Fin cfg0.N) (k : Fin 2048) (l : Fin 1280) :
    iblk m c 1 t (ix2 k l) = W m c (ix2 k ⟨1280 * (t.val % 5) + l.val, by omega⟩) := by
  obtain ⟨e0, e1⟩ := places t
  blk_ext [iblk, e1]

/-- After a point the scratch holds the rows of its block of rows. -/
theorem scratch_at (n : ℕ) : ∀ (hn : n < cfg0.N) (r : Fin 1024) (k : Fin 2048), (outsAt0 m c n hn).2 (ix2 r k)
    = X m c (ix2 ⟨1024 * (n / 5) + r.val, by have := lt_80 ⟨n, hn⟩; simp only at this; omega⟩ k) := by
  induction n with
  | zero =>
    intro hn r k
    rw [outsAt0_A m c ⟨0, hn⟩ (Nat.zero_mod _)]
    frame_out
    exact (kept_at _ r k).trans (rows_at m c ⟨0, hn⟩ r k)
  | succ n ih =>
    intro hn r k
    by_cases h0 : (n + 1) % 5 = 0
    · rw [outsAt0_A m c ⟨n + 1, hn⟩ h0]
      frame_out
      exact (kept_at _ r k).trans (rows_at m c ⟨n + 1, hn⟩ r k)
    · rw [outsAt0_B m c ⟨n + 1, hn⟩ h0]
      refine (ih (Nat.lt_of_succ_lt hn) r k).trans (congrArg (fun i : Fin 16384 => X m c (ix2 i k)) (Fin.ext ?_))
      show 1024 * (n / 5) + r.val = 1024 * ((n + 1) / 5) + r.val
      omega

/-- What a point leaves in its block of the result. -/
theorem block_at (t : Fin cfg0.N) (r : Fin 1024) (l : Fin 1280) : (outsAt0 m c t.val t.isLt).1 (ix2 r l)
    = ∑ k : Fin 2048, X m c (ix2 ⟨1024 * (t.val / 5) + r.val, by have := lt_80 t; omega⟩ k)
        * W m c (ix2 k ⟨1280 * (t.val % 5) + l.val, by omega⟩) := by
  by_cases h0 : t.val % 5 = 0
  · rw [outsAt0_A m c t h0]
    frame_out
    refine (product_at _ _ r l).trans (Finset.sum_congr rfl fun k _ => ?_)
    rw [kept_at, rows_at, cols_at]
  · rw [outsAt0_B m c t h0]
    frame_out
    refine (product_at _ _ r l).trans (Finset.sum_congr rfl fun k _ => ?_)
    refine congrArg₂ (· * ·) (Eq.trans (congrFun ((Memref.isWhole_whole (κ := .tc) cc0_scratch0).read_unread _) (ix2 r k))
      ((scratch_at m c (t.val - 1) _ r k).trans (congrArg (fun i : Fin 16384 => X m c (ix2 i k)) (Fin.ext ?_)))) (cols_at m c t k l)
    show 1024 * ((t.val - 1) / 5) + r.val = 1024 * (t.val / 5) + r.val
    omega

end Cert.Kernel3Ideal.Proj
end
-- ==== Proof.ProjColumns.lean ====
/-
  THE ORDER OF THE COLUMNS: four arrays, or two, side by side at an index, of any number of rows. The weights and the
  reference's result are both put into this order. And a sum scaled is the sum of its terms scaled.
-/
module

public import Idealize.ShloMosaic.Lib.Pipeline.Value
public import Idealize.ShloMosaic.Lib.Pointwise
public import Idealize.ShloMosaic.PureOps.Ideal.Laws

@[expose] public section

set_option backward.proofsInPublic true
set_option maxRecDepth 16384

noncomputable section

namespace Cert.Proj

open Idealize.ShloMosaic Idealize.ShloMosaic.Tactic

/-- The four arrays side by side: which of them holds column `j`, and where. -/
theorem joined_at {R : ℕ} (a : (⟨2, ![R, 5120]⟩ : Shape).Idx → EReal) (b : (⟨2, ![R, 1024]⟩ : Shape).Idx → EReal)
    (g : (⟨2, ![R, 16]⟩ : Shape).Idx → EReal) (z : (⟨2, ![R, 240]⟩ : Shape).Idx → EReal)
    (h : Shape.Concatenates [⟨2, ![R, 5120]⟩, ⟨2, ![R, 1024]⟩, ⟨2, ![R, 16]⟩, ⟨2, ![R, 240]⟩] ⟨2, ![R, 6400]⟩ 1) (r : Fin R) (j : Fin 6400) :
    concatenate ⟨2, ![R, 6400]⟩ 1 [⟨⟨2, ![R, 5120]⟩, a⟩, ⟨⟨2, ![R, 1024]⟩, b⟩, ⟨⟨2, ![R, 16]⟩, g⟩, ⟨⟨2, ![R, 240]⟩, z⟩] h (ix2 r j)
      = if h1 : j.val < 5120 then a (ix2 r ⟨j.val, h1⟩)
        else if h2 : j.val < 6144 then b (ix2 r ⟨j.val - 5120, by omega⟩)
        else if h3 : j.val < 6160 then g (ix2 r ⟨j.val - 6144, by omega⟩)
        else z (ix2 r ⟨j.val - 6160, by omega⟩) := by
  have off : ∀ {n : ℕ} (y : Fin n) (b : Fin 2), b ≠ 1 → ((ix2 r y) b).val = ((ix2 r j) b).val := fun y b hb => by
    match b with
    | 0 => rfl
    | 1 => exact absurd rfl hb
  let xs : List ((s : Shape) × (s.Idx → EReal)) := [⟨⟨2, ![R, 5120]⟩, a⟩, ⟨⟨2, ![R, 1024]⟩, b⟩, ⟨⟨2, ![R, 16]⟩, g⟩, ⟨⟨2, ![R, 240]⟩, z⟩]
  split_ifs with h1 h2 h3
  · exact concatenate_apply_piece 1 xs h (ix2 r j) 0 (by simp [xs]) _ a rfl rfl 0 rfl (ix2 r ⟨j.val, h1⟩) (off _) (Nat.zero_add _)
  · exact concatenate_apply_piece 1 xs h (ix2 r j) 1 (by simp [xs]) _ b rfl rfl 5120 rfl (ix2 r ⟨j.val - 5120, by omega⟩) (off _)
      (by show 5120 + (j.val - 5120) = j.val; omega)
  · exact concatenate_apply_piece 1 xs h (ix2 r j) 2 (by simp [xs]) _ g rfl rfl 6144 rfl (ix2 r ⟨j.val - 6144, by omega⟩) (off _)
      (by show 6144 + (j.val - 6144) = j.val; omega)
  · exact concatenate_apply_piece 1 xs h (ix2 r j) 3 (by simp [xs]) _ z rfl rfl 6160 rfl (ix2 r ⟨j.val - 6160, by omega⟩) (off _)
      (by show 6160 + (j.val - 6160) = j.val; omega)

/-- Two arrays side by side: which of them holds column `j`, and where. -/
theorem pair_at {R : ℕ} (a : (⟨2, ![R, 1024]⟩ : Shape).Idx → EReal) (b : (⟨2, ![R, 3072]⟩ : Shape).Idx → EReal)
    (h : Shape.Concatenates [⟨2, ![R, 1024]⟩, ⟨2, ![R, 3072]⟩] ⟨2, ![R, 4096]⟩ 1) (r : Fin R) (j : Fin 4096) :
    concatenate ⟨2, ![R, 4096]⟩ 1 [⟨⟨2, ![R, 1024]⟩, a⟩, ⟨⟨2, ![R, 3072]⟩, b⟩] h (ix2 r j)
      = if h1 : j.val < 1024 then a (ix2 r ⟨j.val, h1⟩) else b (ix2 r ⟨j.val - 1024, by omega⟩) := by
  have off : ∀ {n : ℕ} (y : Fin n) (b : Fin 2), b ≠ 1 → ((ix2 r y) b).val = ((ix2 r j) b).val := fun y b hb => by
    match b with
    | 0 => rfl
    | 1 => exact absurd rfl hb
  let xs : List ((s : Shape) × (s.Idx → EReal)) := [⟨⟨2, ![R, 1024]⟩, a⟩, ⟨⟨2, ![R, 3072]⟩, b⟩]
  split_ifs with h1
  · exact concatenate_apply_piece 1 xs h (ix2 r j) 0 (by simp [xs]) _ a rfl rfl 0 rfl (ix2 r ⟨j.val, h1⟩) (off _) (Nat.zero_add _)
  · exact concatenate_apply_piece 1 xs h (ix2 r j) 1 (by simp [xs]) _ b rfl rfl 1024 rfl (ix2 r ⟨j.val - 1024, by omega⟩) (off _)
      (by show 1024 + (j.val - 1024) = j.val; omega)

/-- A factor that is neither negative nor infinite goes into a sum, whatever the terms are. -/
theorem scaled_sum {s : EReal} (h0 : 0 ≤ s) (ht : s ≠ ⊤) {ι : Type} (u : Finset ι) (f : ι → EReal) :
    (∑ k ∈ u, f k) * s = ∑ k ∈ u, f k * s := by
  induction u using Finset.cons_induction with
  | empty => simp
  | cons k u hk ih => rw [Finset.sum_cons, Finset.sum_cons, EReal.right_distrib_of_nonneg_of_ne_top h0 ht, ih]

/-- The scale of the queries, `1 / √128` as a float, is neither negative nor infinite. -/
theorem scale_fin : 0 ≤ Ideal.ofBits .f32 0x3DB504F3#32 ∧ Ideal.ofBits .f32 0x3DB504F3#32 ≠ ⊤ := by
  have e : Ideal.ofBits .f32 0x3DB504F3#32 = ((11863283 / 134217728 : ℝ) : EReal) := by
    simp [Ideal.ofBits, Ideal.ieee, -EReal.coe_mul]; norm_num
  rw [e]
  exact ⟨EReal.coe_nonneg.mpr (by norm_num), EReal.coe_ne_top _⟩

end Cert.Proj
end
-- ==== Proof.ProjValue.lean ====
/-
  THE RESULT OF THE FIRST LAYER'S INPUT PROJECTION IS THE REFERENCE'S: the weights put into the kernel's order of columns, the
  reference's result put into the same order, and the equation at every index.
-/
module

public import proofs.«01_k».proof.Proof.ProjBody
public import proofs.«01_k».proof.Proof.ProjColumns
public import proofs.«01_k».proof.Proof.Gen.Reference3Ideal.Read

@[expose] public section

set_option backward.proofsInPublic true
set_option maxRecDepth 16384

noncomputable section

namespace Cert.Kernel3Ideal.Proj

open Cert.Kernel3Ideal Cert.Kernel3Ideal.Gen Cert.Proj
open Idealize.ShloMosaic Idealize.ShloMosaic.TcCoe Idealize.ShloMosaic.Tactic Idealize.SL.Sem

variable (m : (ℓ : Loc nD τ sig) → Buf (Elt Ideal) ℓ) (c : Dev nD)

/-- The weights as they are launched. -/
abbrev W0 : FVec Ideal S2048x6160 .f32 := m ((c.tc : Thread nD τ).loc main_arg1)

/-- The widened weights, column by column. -/
theorem wide_at (k : Fin 2048) (j : Fin 6400) : W m c (ix2 k j)
    = if h1 : j.val < 5120 then W0 m c (ix2 k ⟨j.val, by omega⟩)
      else if h2 : j.val < 6144 then W0 m c (ix2 k ⟨5136 + (j.val - 5120), by omega⟩)
      else if h3 : j.val < 6160 then W0 m c (ix2 k ⟨5120 + (j.val - 6144), by omega⟩)
      else 0 := by
  have e : W m c = truncf .bf16 (concatenate S2048x6400 1
      [⟨S2048x5120, extractStridedSlice S2048x5120 ![0, 0] (W0 m c) slices_S2048x6160_S2048x5120_0_0⟩,
       ⟨S2048x1024, extractStridedSlice S2048x1024 ![0, 5136] (W0 m c) slices_S2048x6160_S2048x1024_0_5136⟩,
       ⟨S2048x16, extractStridedSlice S2048x16 ![0, 5120] (W0 m c) slices_S2048x6160_S2048x16_0_5120⟩,
       ⟨S2048x240, broadcastInDim S2048x240 ![] bcast_S_S2048x240 (constant (F := Ideal) S_ .f32 0x00000000#32)⟩]
      concatenates_S2048x5120_S2048x1024_S2048x16_S2048x240_S2048x6400_d1 : FVec Ideal S2048x6400 .f32) bitsLt_bf16_f32 := by
    unfold W V
    after_reads_simp
    rfl
  rw [e]
  refine Eq.trans (joined_at _ _ _ _ concatenates_S2048x5120_S2048x1024_S2048x16_S2048x240_S2048x6400_d1 k j) ?_
  split_ifs with h1 h2 h3
  · pointwise []
  · pointwise []
  · pointwise []
  · pointwise []

/-- The reference's result, column by column. -/
theorem reference_at (x0 : FVec Ideal S16384x2048 .f32) (x1 : FVec Ideal S2048x6160 .f32) (r : Fin 16384) (j : Fin 6400) :
    Reference3Ideal.Read.val_main_v6 (F := Ideal) x0 x1 (ix2 r j)
    = if h1 : j.val < 5120 then ∑ k : Fin 2048, x0 (ix2 r k) * x1 (ix2 k ⟨j.val, by omega⟩)
      else if h2 : j.val < 6144 then ∑ k : Fin 2048, x0 (ix2 r k) * x1 (ix2 k ⟨5136 + (j.val - 5120), by omega⟩)
      else if h3 : j.val < 6160 then ∑ k : Fin 2048, x0 (ix2 r k) * x1 (ix2 k ⟨5120 + (j.val - 6144), by omega⟩)
      else 0 := by
  refine Eq.trans (joined_at _ _ _ _ Reference3Ideal.Gen.concatenates_S16384x5120_S16384x1024_S16384x16_S16384x240_S16384x6400_d1 r j) ?_
  split_ifs with h1 h2 h3
  · pointwise [Reference3Ideal.Read.val_main_v1, Reference3Ideal.Read.val_main_v0]
  · pointwise [Reference3Ideal.Read.val_main_v3, Reference3Ideal.Read.val_main_v0]
  · pointwise [Reference3Ideal.Read.val_main_v2, Reference3Ideal.Read.val_main_v0]
  · pointwise [Reference3Ideal.Read.val_main_v4, Reference3Ideal.Read.val_main_cst]

/-- An entry of the launch's result. -/
theorem result_at (r : Fin 16384) (j : Fin 6400) :
    Value.G2 m c (ix2 r j) = ∑ k : Fin 2048, X m c (ix2 r k) * W m c (ix2 k j) := by
  have hp : 5 * (r.val / 1024 - 0) + 1 * (j.val / 1280 - 0) < cfg0.N := by rw [show cfg0.N = 80 from N_0]; omega
  have hl : Value.loc2Of (ix2 r j) = ix2 (⟨r.val % 1024, by omega⟩ : Fin 1024) (⟨j.val % 1280, by omega⟩ : Fin 1280) := by
    funext a
    match a with
    | 0 => rfl
    | 1 => rfl
  unfold Value.G2
  rw [dif_pos (show Value.pt2Of (ix2 r j) < cfg0.N from hp), hl]
  have e := Value.outsAt0_sweep m c _ hp
  refine Eq.trans (congrArg (fun p => p.1 (ix2 (⟨r.val % 1024, by omega⟩ : Fin 1024) (⟨j.val % 1280, by omega⟩ : Fin 1280))) e.symm) ?_
  refine (block_at m c ⟨_, hp⟩ _ _).trans (Finset.sum_congr rfl fun k _ => ?_)
  have er : (⟨1024 * ((5 * (r.val / 1024 - 0) + 1 * (j.val / 1280 - 0)) / 5) + r.val % 1024, by omega⟩ : Fin 16384) = r := Fin.ext (by
    show 1024 * ((5 * (r.val / 1024 - 0) + 1 * (j.val / 1280 - 0)) / 5) + r.val % 1024 = r.val; omega)
  have ej : (⟨1280 * ((5 * (r.val / 1024 - 0) + 1 * (j.val / 1280 - 0)) % 5) + j.val % 1280, by omega⟩ : Fin 6400) = j := Fin.ext (by
    show 1280 * ((5 * (r.val / 1024 - 0) + 1 * (j.val / 1280 - 0)) % 5) + j.val % 1280 = j.val; omega)
  exact congrArg₂ (fun (a : Fin 16384) (b : Fin 6400) => X m c (ix2 a k) * W m c (ix2 k b)) er ej

/-- The launch leaves the reference's result. -/
theorem result_eq (i : S16384x6400.Idx) :
    Value.G2 m c i = Reference3Ideal.Read.val_main_v6 (F := Ideal) (X m c) (W0 m c) i := by
  obtain ⟨r, j, rfl⟩ : ∃ (r : Fin 16384) (j : Fin 6400), i = ix2 r j := ⟨i 0, i 1, eq_ix2 i⟩
  rw [result_at, reference_at]
  rw [Finset.sum_congr rfl fun k _ => congrArg (X m c (ix2 r k) * ·) (wide_at m c k j)]
  split_ifs with h1 h2 h3
  · rfl
  · rfl
  · rfl
  · have hz : ∑ k : Fin 2048, (X m c (ix2 r k) : EReal) * (0 : EReal) = 0 := Finset.sum_eq_zero fun k _ => mul_zero (X m c (ix2 r k) : EReal)
    exact hz

end Cert.Kernel3Ideal.Proj
end
-- ==== Proof.Proj2Body.lean ====
/-
  THE SECOND LAYER'S INPUT PROJECTION'S GRID: what a point leaves in its scratch and in its block of the result. The first of a block of
  rows' four points keeps the rows in the scratch; each of the four multiplies the scratch by its own columns.
-/
module

public import proofs.«01_k».proof.Proof.Gen.Kernel4Ideal.Value
public import Idealize.ShloMosaic.Lib.Pipeline.ValueKit
public import Idealize.ShloMosaic.Lib.Pointwise
public import Idealize.ShloMosaic.Lib.Claim
public import Idealize.ShloMosaic.Lib.StableHlo.ReadAt

@[expose] public section

set_option backward.proofsInPublic true
set_option maxRecDepth 16384

noncomputable section

namespace Cert.Kernel4Ideal.Proj

open Cert.Kernel4Ideal Cert.Kernel4Ideal.Gen
open Idealize.ShloMosaic Idealize.ShloMosaic.TcCoe Idealize.ShloMosaic.Tactic Idealize.SL.Sem

variable (m : (ℓ : Loc nD τ sig) → Buf (Elt Ideal) ℓ) (c : Dev nD)

/-- The rows and the weights as the launch reads them. -/
abbrev X : FVec Ideal S16384x2048 .f32 := m ((c.tc : Thread nD τ).loc main_arg0)
abbrev W : FVec Ideal S2048x4096 .bf16 := V m c main_v5

/-- Where each window's block lies at a point: its rows are `t / 4`, its columns `t % 4`. -/
theorem places : ∀ t : Fin cfg0.N, win0_0.index t = ![t.val / 4, 0] ∧ win0_1.index t = ![0, t.val % 4] :=
  (by decide +kernel : ∀ t : Fin grid0.N, win0_0.index t = ![t.val / 4, 0] ∧ win0_1.index t = ![0, t.val % 4])

theorem lt_64 (t : Fin cfg0.N) : t.val < 64 := lt_of_lt_of_eq t.isLt N_0

/-- The rows kept in the scratch. -/
theorem kept_at (x : FVec Ideal S1024x2048 .f32) (r : Fin 1024) (k : Fin 2048) : k0_pay1 (F := Ideal) x (ix2 r k) = x (ix2 r k) := by
  pointwise [k0_pay1]

/-- A block of the result. -/
theorem product_at (x : FVec Ideal S1024x2048 .bf16) (w : FVec Ideal S2048x1024 .bf16) (r : Fin 1024) (l : Fin 1024) :
    k0_pay2 (F := Ideal) x w (ix2 r l) = ∑ k : Fin 2048, x (ix2 r k) * w (ix2 k l) := by
  pointwise [k0_pay2]

/-- The rows of a point. -/
theorem rows_at (t : Fin cfg0.N) (r : Fin 1024) (k : Fin 2048) :
    iblk m c 0 t (ix2 r k) = X m c (ix2 ⟨1024 * (t.val / 4) + r.val, by have := lt_64 t; omega⟩ k) := by
  obtain ⟨e0, e1⟩ := places t
  blk_ext [iblk, V, e0]

/-- The columns of a point. -/
theorem cols_at (t : Fin cfg0.N) (k : Fin 2048) (l : Fin 1024) :
    iblk m c 1 t (ix2 k l) = W m c (ix2 k ⟨1024 * (t.val % 4) + l.val, by omega⟩) := by
  obtain ⟨e0, e1⟩ := places t
  blk_ext [iblk, e1]

/-- After a point the scratch holds the rows of its block of rows. -/
theorem scratch_at (n : ℕ) : ∀ (hn : n < cfg0.N) (r : Fin 1024) (k : Fin 2048), (outsAt0 m c n hn).2 (ix2 r k)
    = X m c (ix2 ⟨1024 * (n / 4) + r.val, by have := lt_64 ⟨n, hn⟩; simp only at this; omega⟩ k) := by
  induction n with
  | zero =>
    intro hn r k
    rw [outsAt0_A m c ⟨0, hn⟩ (Nat.zero_mod _)]
    frame_out
    exact (kept_at _ r k).trans (rows_at m c ⟨0, hn⟩ r k)
  | succ n ih =>
    intro hn r k
    by_cases h0 : (n + 1) % 4 = 0
    · rw [outsAt0_A m c ⟨n + 1, hn⟩ h0]
      frame_out
      exact (kept_at _ r k).trans (rows_at m c ⟨n + 1, hn⟩ r k)
    · rw [outsAt0_B m c ⟨n + 1, hn⟩ h0]
      refine (ih (Nat.lt_of_succ_lt hn) r k).trans (congrArg (fun i : Fin 16384 => X m c (ix2 i k)) (Fin.ext ?_))
      show 1024 * (n / 4) + r.val = 1024 * ((n + 1) / 4) + r.val
      omega

/-- What a point leaves in its block of the result. -/
theorem block_at (t : Fin cfg0.N) (r : Fin 1024) (l : Fin 1024) : (outsAt0 m c t.val t.isLt).1 (ix2 r l)
    = ∑ k : Fin 2048, X m c (ix2 ⟨1024 * (t.val / 4) + r.val, by have := lt_64 t; omega⟩ k)
        * W m c (ix2 k ⟨1024 * (t.val % 4) + l.val, by omega⟩) := by
  by_cases h0 : t.val % 4 = 0
  · rw [outsAt0_A m c t h0]
    frame_out
    refine (product_at _ _ r l).trans (Finset.sum_congr rfl fun k _ => ?_)
    rw [kept_at, rows_at, cols_at]
  · rw [outsAt0_B m c t h0]
    frame_out
    refine (product_at _ _ r l).trans (Finset.sum_congr rfl fun k _ => ?_)
    refine congrArg₂ (· * ·) (Eq.trans (congrFun ((Memref.isWhole_whole (κ := .tc) cc0_scratch0).read_unread _) (ix2 r k))
      ((scratch_at m c (t.val - 1) _ r k).trans (congrArg (fun i : Fin 16384 => X m c (ix2 i k)) (Fin.ext ?_)))) (cols_at m c t k l)
    show 1024 * ((t.val - 1) / 4) + r.val = 1024 * (t.val / 4) + r.val
    omega

end Cert.Kernel4Ideal.Proj
end
-- ==== Proof.Proj2Value.lean ====
/-
  THE RESULT OF THE SECOND LAYER'S INPUT PROJECTION IS THE REFERENCE'S: the kernel scales the queries' columns of the
  weights, the reference the queries' columns of the product.
-/
module

public import proofs.«01_k».proof.Proof.Proj2Body
public import proofs.«01_k».proof.Proof.ProjColumns
public import proofs.«01_k».proof.Proof.Gen.Reference4Ideal.Read

@[expose] public section

set_option backward.proofsInPublic true
set_option maxRecDepth 16384

noncomputable section

namespace Cert.Kernel4Ideal.Proj

open Cert.Kernel4Ideal Cert.Kernel4Ideal.Gen Cert.Proj
open Idealize.ShloMosaic Idealize.ShloMosaic.TcCoe Idealize.ShloMosaic.Tactic Idealize.SL.Sem

variable (m : (ℓ : Loc nD τ sig) → Buf (Elt Ideal) ℓ) (c : Dev nD)

/-- The weights as they are launched. -/
abbrev W0 : FVec Ideal S2048x4096 .f32 := m ((c.tc : Thread nD τ).loc main_arg1)

/-- The scale of the queries. -/
abbrev scale : EReal := Ideal.ofBits .f32 0x3DB504F3#32

/-- The weights the launch reads, column by column. -/
theorem scaled_at (k : Fin 2048) (j : Fin 4096) : W m c (ix2 k j)
    = if j.val < 1024 then W0 m c (ix2 k j) * scale else W0 m c (ix2 k j) := by
  have e : W m c = truncf .bf16 (concatenate S2048x4096 1
      [⟨S2048x1024, mulf (extractStridedSlice S2048x1024 ![0, 0] (W0 m c) slices_S2048x4096_S2048x1024_0_0)
         (broadcastInDim S2048x1024 ![] bcast_S_S2048x1024 (constant (F := Ideal) S_ .f32 0x3DB504F3#32))⟩,
       ⟨S2048x3072, extractStridedSlice S2048x3072 ![0, 1024] (W0 m c) slices_S2048x4096_S2048x3072_0_1024⟩]
      concatenates_S2048x1024_S2048x3072_S2048x4096_d1 : FVec Ideal S2048x4096 .f32) bitsLt_bf16_f32 := by
    unfold W V
    after_reads_simp
    rfl
  rw [e]
  refine Eq.trans (pair_at _ _ concatenates_S2048x1024_S2048x3072_S2048x4096_d1 k j) ?_
  by_cases h1 : j.val < 1024
  · rw [dif_pos h1, if_pos h1]
    pointwise []
  · rw [dif_neg h1, if_neg h1]
    have ej : (⟨1024 + (j.val - 1024), by omega⟩ : Fin 4096) = j := Fin.ext (by show 1024 + (j.val - 1024) = j.val; omega)
    refine Eq.trans (b := W0 m c (ix2 k ⟨1024 + (j.val - 1024), by omega⟩)) (by pointwise []) ?_
    rw [ej]

/-- The reference's result, column by column. -/
theorem reference_at (x0 : FVec Ideal S16384x2048 .f32) (x1 : FVec Ideal S2048x4096 .f32) (r : Fin 16384) (j : Fin 4096) :
    Reference4Ideal.Read.val_main_v6 (F := Ideal) x0 x1 (ix2 r j)
    = if j.val < 1024 then (∑ k : Fin 2048, x0 (ix2 r k) * x1 (ix2 k j)) * scale
      else ∑ k : Fin 2048, x0 (ix2 r k) * x1 (ix2 k j) := by
  refine Eq.trans (pair_at _ _ Reference4Ideal.Gen.concatenates_S16384x1024_S16384x3072_S16384x4096_d1 r j) ?_
  by_cases h1 : j.val < 1024
  · rw [dif_pos h1, if_pos h1]
    pointwise [Reference4Ideal.Read.val_main_v4, Reference4Ideal.Read.val_main_v3, Reference4Ideal.Read.val_main_cst, Reference4Ideal.Read.val_main_v1, Reference4Ideal.Read.val_main_v0]
  · rw [dif_neg h1, if_neg h1]
    have ej : (⟨1024 + (j.val - 1024), by omega⟩ : Fin 4096) = j := Fin.ext (by show 1024 + (j.val - 1024) = j.val; omega)
    refine Eq.trans (b := ∑ k : Fin 2048, x0 (ix2 r k) * x1 (ix2 k ⟨1024 + (j.val - 1024), by omega⟩)) (by
      pointwise [Reference4Ideal.Read.val_main_v2, Reference4Ideal.Read.val_main_v0]) ?_
    rw [ej]

/-- An entry of the launch's result. -/
theorem result_at (r : Fin 16384) (j : Fin 4096) :
    Value.G2 m c (ix2 r j) = ∑ k : Fin 2048, X m c (ix2 r k) * W m c (ix2 k j) := by
  have hp : 4 * (r.val / 1024 - 0) + 1 * (j.val / 1024 - 0) < cfg0.N := by rw [show cfg0.N = 64 from N_0]; omega
  have hl : Value.loc2Of (ix2 r j) = ix2 (⟨r.val % 1024, by omega⟩ : Fin 1024) (⟨j.val % 1024, by omega⟩ : Fin 1024) := by
    funext a
    match a with
    | 0 => rfl
    | 1 => rfl
  unfold Value.G2
  rw [dif_pos (show Value.pt2Of (ix2 r j) < cfg0.N from hp), hl]
  have e := Value.outsAt0_sweep m c _ hp
  refine Eq.trans (congrArg (fun p => p.1 (ix2 (⟨r.val % 1024, by omega⟩ : Fin 1024) (⟨j.val % 1024, by omega⟩ : Fin 1024))) e.symm) ?_
  refine (block_at m c ⟨_, hp⟩ _ _).trans (Finset.sum_congr rfl fun k _ => ?_)
  have er : (⟨1024 * ((4 * (r.val / 1024 - 0) + 1 * (j.val / 1024 - 0)) / 4) + r.val % 1024, by omega⟩ : Fin 16384) = r := Fin.ext (by
    show 1024 * ((4 * (r.val / 1024 - 0) + 1 * (j.val / 1024 - 0)) / 4) + r.val % 1024 = r.val; omega)
  have ej : (⟨1024 * ((4 * (r.val / 1024 - 0) + 1 * (j.val / 1024 - 0)) % 4) + j.val % 1024, by omega⟩ : Fin 4096) = j := Fin.ext (by
    show 1024 * ((4 * (r.val / 1024 - 0) + 1 * (j.val / 1024 - 0)) % 4) + j.val % 1024 = j.val; omega)
  exact congrArg₂ (fun (a : Fin 16384) (b : Fin 4096) => X m c (ix2 a k) * W m c (ix2 k b)) er ej

/-- The launch leaves the reference's result. -/
theorem result_eq (i : S16384x4096.Idx) :
    Value.G2 m c i = Reference4Ideal.Read.val_main_v6 (F := Ideal) (X m c) (W0 m c) i := by
  obtain ⟨r, j, rfl⟩ : ∃ (r : Fin 16384) (j : Fin 4096), i = ix2 r j := ⟨i 0, i 1, eq_ix2 i⟩
  rw [result_at, reference_at]
  rw [Finset.sum_congr rfl fun k _ => congrArg (X m c (ix2 r k) * ·) (scaled_at m c k j)]
  by_cases h1 : j.val < 1024
  · simp only [if_pos h1]
    have hs : (∑ k : Fin 2048, (X m c (ix2 r k) : EReal) * W0 m c (ix2 k j)) * scale
        = ∑ k : Fin 2048, (X m c (ix2 r k) : EReal) * (W0 m c (ix2 k j) * scale) :=
      (scaled_sum scale_fin.1 scale_fin.2 _ _).trans (Finset.sum_congr rfl fun k _ => mul_assoc _ _ _)
    exact hs.symm
  · simp only [if_neg h1]

end Cert.Kernel4Ideal.Proj
end
-- ==== Proof.lean ====
module

public import proofs.«01_k».proof.Defs
public import proofs.«01_k».proof.Proof.Gen.Kernel
public import proofs.«01_k».proof.Proof.Gen.Pre_finite_inputs
public import proofs.«01_k».proof.Proof.Gen.ReferenceIdeal.Run
public import proofs.«01_k».proof.Proof.Gen.ReferenceIdeal.Read
public import proofs.«01_k».proof.Proof.Value
public import proofs.«01_k».proof.Proof.Plain
public import proofs.«01_k».proof.Proof.FfnValue
public import proofs.«01_k».proof.Proof.FfnPlain
public import proofs.«01_k».proof.Proof.ProjValue
public import proofs.«01_k».proof.Proof.Proj2Value
public import proofs.«01_k».proof.Proof.Gen.Kernel2
public import proofs.«01_k».proof.Proof.Gen.Kernel2Ideal.Skeleton
public import proofs.«01_k».proof.Proof.Gen.Kernel2Ideal.Launch
public import proofs.«01_k».proof.Proof.Gen.Pre_experts_in_range
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Quiescent

/-!
# The claim

Each frame is the run of its program; the value claim sets the kernel's run beside the reference's.
-/

@[expose] public section

noncomputable section

namespace Cert.Proof

open Idealize.ShloMosaic Idealize.SL.Sem

/-- The reference's own run. -/
theorem quiescent_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem quiescent_reference_pre : quiescent_ReferenceIdeal_pre_finite_inputs := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the launch and the reference end with equal results. -/
theorem equal_results : algebraic_KernelIdeal_ReferenceIdeal_pre_finite_inputs := by
  intro m ρ m' ρ' hpre hagree
  refine ⟨_, Cert.KernelIdeal.Attn.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5⟩ := hagree c
  rw [(h c).1, Cert.ReferenceIdeal.Read.val_main_v61_eq, h0, h1, h2, h3, h4, h5]
  exact funext fun i => (Cert.KernelIdeal.Attn.result_eq m c (hpre c) i).symm

/-- The run of the second reference. -/
theorem quiescent_experts_reference : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The same where the precondition holds. -/
theorem quiescent_experts_reference_pre : quiescent_Reference2Ideal_pre_experts_in_range := fun m ρ _ =>
  (θ_run Cert.Reference2Ideal.defs _ _).mono (fun r h => ⟨fun c => (h c).2, sem_eq_zero_of_no_sems (by decide) r.2⟩)
    (Cert.Reference2Ideal.Value.run (F := Ideal) m ρ)

/-- The run of the expert feed-forward over the reals. -/
theorem quiescent_experts : quiescent_Kernel2Ideal := fun m ρ hpre =>
  Cert.Kernel2Ideal.Ffn.frame (F := Ideal) m ρ
    (Cert.Pre_experts_in_range.Ffn.in_range (F := Ideal) _ _ _ _ _ _ (hpre Cert.Kernel2Ideal.Ffn.dev))

/-- From equal arguments the expert feed-forward and its reference end with equal results. -/
theorem equal_experts : algebraic_Kernel2Ideal_Reference2Ideal := by
  intro m ρ m' ρ' hpre hagree
  have hr : Cert.Kernel2Ideal.Ffn.InRange m :=
    Cert.Pre_experts_in_range.Ffn.in_range (F := Ideal) _ _ _ _ _ _ (hpre Cert.Kernel2Ideal.Ffn.dev)
  refine ⟨_, Cert.Kernel2Ideal.Ffn.run (F := Ideal) m ρ hr, ?_⟩
  refine (θ_run Cert.Reference2Ideal.defs _ _).mono (fun _ h c => ⟨?_, (h c).2⟩) (Cert.Reference2Ideal.Value.run (F := Ideal) m' ρ')
  obtain ⟨h0, h1, h2, h3, h4, h5⟩ := hagree c
  rw [(h c).1, Cert.Reference2Ideal.Read.val_main_v23_eq, h0, h1, h2, h3, h4, h5]
  exact funext fun i => (Cert.Kernel2Ideal.Ffn.result_eq m hr c i).symm

/-- The run of the third reference. -/
theorem quiescent_projection_reference : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From equal arguments the input projection and its reference end with equal results. -/
theorem equal_projections : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  obtain ⟨h0, h1⟩ := hagree c
  rw [(h c).1, Cert.Reference3Ideal.Read.val_main_v6_eq, h0, h1]
  exact funext fun i => (Cert.Kernel3Ideal.Proj.result_eq m c i).symm

/-- The run of the fourth reference. -/
theorem quiescent_second_projection_reference : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From equal arguments the second layer's input projection and its reference end with equal results. -/
theorem equal_second_projections : algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨?_, (h c).2⟩) (Cert.Reference4Ideal.Value.run (F := Ideal) m' ρ')
  obtain ⟨h0, h1⟩ := hagree c
  rw [(h c).1, Cert.Reference4Ideal.Read.val_main_v6_eq, h0, h1]
  exact funext fun i => (Cert.Kernel4Ideal.Proj.result_eq m c i).symm

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_inputs.Gen.facts, Cert.Pre_experts_in_range.Gen.facts,
  Cert.Kernel.Attn.frame, fun m ρ _ => Cert.KernelIdeal.Attn.frame m ρ, fun m ρ _ => Cert.KernelIdeal.Attn.frame m ρ,
  quiescent_reference, quiescent_reference_pre,
  Cert.Kernel2.Ffn.frame, quiescent_experts, quiescent_experts_reference, quiescent_experts_reference_pre,
  fun m ρ _ => Cert.Kernel3.Gen.frame m ρ, fun m ρ _ => Cert.Kernel3Ideal.Gen.frame m ρ, quiescent_projection_reference,
  fun m ρ _ => Cert.Kernel4.Gen.frame m ρ, fun m ρ _ => Cert.Kernel4Ideal.Gen.frame m ρ, quiescent_second_projection_reference,
  IdealRules.named_const.statement Cert.KernelIdeal.κ "q_scale" .f32 0x3E38AA3B#32 (((Real.log 2)⁻¹ * 8⁻¹ : ℝ) : EReal) rfl,
  equal_results, trivial, equal_experts, trivial, equal_projections, trivial, equal_second_projections⟩

end Cert.Proof

end
